-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v259_0)) (v1 : (c : Dev Cert.KernelIdeal.nD) → Buf (Elt Ideal) ((c.tc : Thread Cert.KernelIdeal.nD Cert.KernelIdeal.τ).loc Cert.KernelIdeal.main_v262)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v259_0) = v0 c
          ∧ r.2.mem ((c.tc : Thread Cert.KernelIdeal.nD Cert.KernelIdeal.τ).loc Cert.KernelIdeal.main_v262) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v303) = v0 c
          ∧ r.2.mem ((c.tc : Thread Cert.ReferenceIdeal.nD Cert.ReferenceIdeal.τ).loc Cert.ReferenceIdeal.main_v282) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x768 : Shape := ⟨2, ![32, 768]⟩
abbrev S32x256x1024 : Shape := ⟨3, ![32, 256, 1024]⟩
abbrev S1x32x1024 : Shape := ⟨3, ![1, 32, 1024]⟩
abbrev S2x1024x1024 : Shape := ⟨3, ![2, 1024, 1024]⟩
abbrev S2x1024 : Shape := ⟨2, ![2, 1024]⟩
abbrev S2x1024x2048 : Shape := ⟨3, ![2, 1024, 2048]⟩
abbrev S2x2048 : Shape := ⟨2, ![2, 2048]⟩
abbrev S2x2048x1024 : Shape := ⟨3, ![2, 2048, 1024]⟩
abbrev S1024x768 : Shape := ⟨2, ![1024, 768]⟩
abbrev S768 : Shape := ⟨1, ![768]⟩
abbrev S32x32x1024 : Shape := ⟨3, ![32, 32, 1024]⟩
abbrev S32x288x1024 : Shape := ⟨3, ![32, 288, 1024]⟩
abbrev S1x1024 : Shape := ⟨2, ![1, 1024]⟩
abbrev S1024 : Shape := ⟨1, ![1024]⟩
abbrev S_ : Shape := ⟨0, ![]⟩
abbrev S32x288 : Shape := ⟨2, ![32, 288]⟩
abbrev S32x288x1 : Shape := ⟨3, ![32, 288, 1]⟩
abbrev S1x1x1024 : Shape := ⟨3, ![1, 1, 1024]⟩
abbrev S1x1024x1024 : Shape := ⟨3, ![1, 1024, 1024]⟩
abbrev S1024x1024 : Shape := ⟨2, ![1024, 1024]⟩
abbrev S1x1024x2048 : Shape := ⟨3, ![1, 1024, 2048]⟩
abbrev S1024x2048 : Shape := ⟨2, ![1024, 2048]⟩
abbrev S1x2048 : Shape := ⟨2, ![1, 2048]⟩
abbrev S2048 : Shape := ⟨1, ![2048]⟩
abbrev S32x288x8x128 : Shape := ⟨4, ![32, 288, 8, 128]⟩
abbrev S32x288x2048 : Shape := ⟨3, ![32, 288, 2048]⟩
abbrev S1x1x2048 : Shape := ⟨3, ![1, 1, 2048]⟩
abbrev S32x288x2x8x128 : Shape := ⟨5, ![32, 288, 2, 8, 128]⟩
abbrev S32x288x1x8x128 : Shape := ⟨5, ![32, 288, 1, 8, 128]⟩
abbrev S32x8x288x288 : Shape := ⟨4, ![32, 8, 288, 288]⟩
abbrev S32x288x288x8 : Shape := ⟨4, ![32, 288, 288, 8]⟩
abbrev S32x288x8 : Shape := ⟨3, ![32, 288, 8]⟩
abbrev S32x288x1x8 : Shape := ⟨4, ![32, 288, 1, 8]⟩
abbrev S32x8x128x288 : Shape := ⟨4, ![32, 8, 128, 288]⟩
abbrev S1x2048x1024 : Shape := ⟨3, ![1, 2048, 1024]⟩
abbrev S2048x1024 : Shape := ⟨2, ![2048, 1024]⟩
abbrev S32x32x768 : Shape := ⟨3, ![32, 32, 768]⟩
abbrev S1x1x768 : Shape := ⟨3, ![1, 1, 768]⟩
abbrev S32x16x768 : Shape := ⟨3, ![32, 16, 768]⟩
abbrev S32x128 : Shape := ⟨2, ![32, 128]⟩
abbrev S768x768 : Shape := ⟨2, ![768, 768]⟩
abbrev S768x32 : Shape := ⟨2, ![768, 32]⟩
abbrev S1x32x768 : Shape := ⟨3, ![1, 32, 768]⟩
abbrev S768x1 : Shape := ⟨2, ![768, 1]⟩
abbrev S32x1 : Shape := ⟨2, ![32, 1]⟩
abbrev S32x32 : Shape := ⟨2, ![32, 32]⟩
abbrev S32 : Shape := ⟨1, ![32]⟩
abbrev S1x32 : Shape := ⟨2, ![1, 32]⟩
abbrev S32x32x1 : Shape := ⟨3, ![32, 32, 1]⟩
abbrev S32x1x32 : Shape := ⟨3, ![32, 1, 32]⟩
abbrev S32x32x32 : Shape := ⟨3, ![32, 32, 32]⟩
abbrev S32x16x32 : Shape := ⟨3, ![32, 16, 32]⟩
abbrev S32x16 : Shape := ⟨2, ![32, 16]⟩
abbrev S32x16x1 : Shape := ⟨3, ![32, 16, 1]⟩
abbrev S32x1x16 : Shape := ⟨3, ![32, 1, 16]⟩
abbrev S32x16x16 : Shape := ⟨3, ![32, 16, 16]⟩
abbrev S1x16x32 : Shape := ⟨3, ![1, 16, 32]⟩
abbrev S16x32 : Shape := ⟨2, ![16, 32]⟩
abbrev S16x768 : Shape := ⟨2, ![16, 768]⟩
abbrev S16 : Shape := ⟨1, ![16]⟩
abbrev S16x1 : Shape := ⟨2, ![16, 1]⟩
abbrev S1x16x768 : Shape := ⟨3, ![1, 16, 768]⟩

abbrev nBuf : Space → Nat
  | .hbm => 317
  | .vmem => 4
  | .smem => 0
  | _ => 0

abbrev hbmTy0_0 (i : Nat) : BufTy := match i % 128 with
  | 0 => ⟨S32x768, .f32⟩
  | 1 => ⟨S32x256x1024, .f32⟩
  | 2 => ⟨S1x32x1024, .f32⟩
  | 3 => ⟨S2x1024x1024, .f32⟩
  | 4 => ⟨S2x1024, .f32⟩
  | 5 => ⟨S2x1024x2048, .f32⟩
  | 6 => ⟨S2x2048, .f32⟩
  | 7 => ⟨S2x1024x1024, .f32⟩
  | 8 => ⟨S2x1024, .f32⟩
  | 9 => ⟨S2x1024, .f32⟩
  | 10 => ⟨S2x1024, .f32⟩
  | 11 => ⟨S2x1024, .f32⟩
  | 12 => ⟨S2x1024, .f32⟩
  | 13 => ⟨S2x1024x2048, .f32⟩
  | 14 => ⟨S2x2048, .f32⟩
  | 15 => ⟨S2x2048x1024, .f32⟩
  | 16 => ⟨S2x1024, .f32⟩
  | 17 => ⟨S1024x768, .f32⟩
  | 18 => ⟨S768, .f32⟩
  | 19 => ⟨S32x32x1024, .f32⟩
  | 20 => ⟨S32x288x1024, .f32⟩
  | 21 => ⟨S1x1024, .f32⟩
  | 22 => ⟨S1024, .f32⟩
  | 23 => ⟨S1x1024, .f32⟩
  | 24 => ⟨S1024, .f32⟩
  | 25 => ⟨S_, .f32⟩
  | 26 => ⟨S32x288, .f32⟩
  | 27 => ⟨S32x288x1, .f32⟩
  | 28 => ⟨S_, .f32⟩
  | 29 => ⟨S32x288x1, .f32⟩
  | 30 => ⟨S32x288x1, .f32⟩
  | 31 => ⟨S32x288x1024, .f32⟩
  | 32 => ⟨S32x288x1024, .f32⟩
  | 33 => ⟨S32x288x1024, .f32⟩
  | 34 => ⟨S_, .f32⟩
  | 35 => ⟨S32x288, .f32⟩
  | 36 => ⟨S32x288x1, .f32⟩
  | 37 => ⟨S_, .f32⟩
  | 38 => ⟨S32x288x1, .f32⟩
  | 39 => ⟨S32x288x1, .f32⟩
  | 40 => ⟨S32x288x1024, .f32⟩
  | 41 => ⟨S32x288x1024, .f32⟩
  | 42 => ⟨S_, .f32⟩
  | 43 => ⟨S32x288x1, .f32⟩
  | 44 => ⟨S32x288x1, .f32⟩
  | 45 => ⟨S32x288x1, .f32⟩
  | 46 => ⟨S32x288x1024, .f32⟩
  | 47 => ⟨S32x288x1024, .f32⟩
  | 48 => ⟨S1x1x1024, .f32⟩
  | 49 => ⟨S32x288x1024, .f32⟩
  | 50 => ⟨S32x288x1024, .f32⟩
  | 51 => ⟨S1x1x1024, .f32⟩
  | 52 => ⟨S32x288x1024, .f32⟩
  | 53 => ⟨S32x288x1024, .f32⟩
  | 54 => ⟨S1x1024x1024, .f32⟩
  | 55 => ⟨S1024x1024, .f32⟩
  | 56 => ⟨S1x1024, .f32⟩
  | 57 => ⟨S1024, .f32⟩
  | 58 => ⟨S1x1024x2048, .f32⟩
  | 59 => ⟨S1024x2048, .f32⟩
  | 60 => ⟨S1x2048, .f32⟩
  | 61 => ⟨S2048, .f32⟩
  | 62 => ⟨S1x1024x1024, .f32⟩
  | 63 => ⟨S1024x1024, .f32⟩
  | 64 => ⟨S1x1024, .f32⟩
  | 65 => ⟨S1024, .f32⟩
  | 66 => ⟨S32x288x1024, .f32⟩
  | 67 => ⟨S1x1x1024, .f32⟩
  | 68 => ⟨S32x288x1024, .f32⟩
  | 69 => ⟨S32x288x1024, .f32⟩
  | 70 => ⟨S32x288x8x128, .f32⟩
  | 71 => ⟨S32x288x2048, .f32⟩
  | 72 => ⟨S1x1x2048, .f32⟩
  | 73 => ⟨S32x288x2048, .f32⟩
  | 74 => ⟨S32x288x2048, .f32⟩
  | 75 => ⟨S32x288x2x8x128, .f32⟩
  | 76 => ⟨S32x288x1x8x128, .f32⟩
  | 77 => ⟨S32x288x8x128, .f32⟩
  | 78 => ⟨S32x288x1x8x128, .f32⟩
  | 79 => ⟨S32x288x8x128, .f32⟩
  | 80 => ⟨S32x8x288x288, .f32⟩
  | 81 => ⟨S32x288x288x8, .f32⟩
  | 82 => ⟨S_, .f32⟩
  | 83 => ⟨S32x288x288x8, .f32⟩
  | 84 => ⟨S32x288x288x8, .f32⟩
  | 85 => ⟨S_, .f32⟩
  | 86 => ⟨S32x288x8, .f32⟩
  | 87 => ⟨S_, .f32⟩
  | 88 => ⟨S32x288x8, .f32⟩
  | 89 => ⟨S32x288x8, .f32⟩
  | 90 => ⟨S32x288x1x8, .f32⟩
  | 91 => ⟨S32x288x288x8, .f32⟩
  | 92 => ⟨S32x288x288x8, .f32⟩
  | 93 => ⟨S32x288x288x8, .f32⟩
  | 94 => ⟨S_, .f32⟩
  | 95 => ⟨S32x288x8, .f32⟩
  | 96 => ⟨S32x288x1x8, .f32⟩
  | 97 => ⟨S32x288x288x8, .f32⟩
  | 98 => ⟨S32x288x288x8, .f32⟩
  | 99 => ⟨S32x8x128x288, .f32⟩
  | 100 => ⟨S32x288x8x128, .f32⟩
  | 101 => ⟨S32x288x1024, .f32⟩
  | 102 => ⟨S32x288x1024, .f32⟩
  | 103 => ⟨S1x1x1024, .f32⟩
  | 104 => ⟨S32x288x1024, .f32⟩
  | 105 => ⟨S32x288x1024, .f32⟩
  | 106 => ⟨S32x288x1024, .f32⟩
  | 107 => ⟨S1x1024, .f32⟩
  | 108 => ⟨S1024, .f32⟩
  | 109 => ⟨S1x1024, .f32⟩
  | 110 => ⟨S1024, .f32⟩
  | 111 => ⟨S_, .f32⟩
  | 112 => ⟨S32x288, .f32⟩
  | 113 => ⟨S32x288x1, .f32⟩
  | 114 => ⟨S_, .f32⟩
  | 115 => ⟨S32x288x1, .f32⟩
  | 116 => ⟨S32x288x1, .f32⟩
  | 117 => ⟨S32x288x1024, .f32⟩
  | 118 => ⟨S32x288x1024, .f32⟩
  | 119 => ⟨S32x288x1024, .f32⟩
  | 120 => ⟨S_, .f32⟩
  | 121 => ⟨S32x288, .f32⟩
  | 122 => ⟨S32x288x1, .f32⟩
  | 123 => ⟨S_, .f32⟩
  | 124 => ⟨S32x288x1, .f32⟩
  | 125 => ⟨S32x288x1, .f32⟩
  | 126 => ⟨S32x288x1024, .f32⟩
  | 127 => ⟨S32x288x1024, .f32⟩
  | _ => ⟨S32x768, .f32⟩

abbrev hbmTy0_1 (i : Nat) : BufTy := match i % 128 with
  | 0 => ⟨S_, .f32⟩
  | 1 => ⟨S32x288x1, .f32⟩
  | 2 => ⟨S32x288x1, .f32⟩
  | 3 => ⟨S32x288x1, .f32⟩
  | 4 => ⟨S32x288x1024, .f32⟩
  | 5 => ⟨S32x288x1024, .f32⟩
  | 6 => ⟨S1x1x1024, .f32⟩
  | 7 => ⟨S32x288x1024, .f32⟩
  | 8 => ⟨S32x288x1024, .f32⟩
  | 9 => ⟨S1x1x1024, .f32⟩
  | 10 => ⟨S32x288x1024, .f32⟩
  | 11 => ⟨S32x288x1024, .f32⟩
  | 12 => ⟨S1x1024x2048, .f32⟩
  | 13 => ⟨S1024x2048, .f32⟩
  | 14 => ⟨S32x288x2048, .f32⟩
  | 15 => ⟨S1x2048, .f32⟩
  | 16 => ⟨S2048, .f32⟩
  | 17 => ⟨S1x1x2048, .f32⟩
  | 18 => ⟨S32x288x2048, .f32⟩
  | 19 => ⟨S32x288x2048, .f32⟩
  | 20 => ⟨S_, .f32⟩
  | 21 => ⟨S32x288x2048, .f32⟩
  | 22 => ⟨S32x288x2048, .f32⟩
  | 23 => ⟨S1x2048x1024, .f32⟩
  | 24 => ⟨S2048x1024, .f32⟩
  | 25 => ⟨S32x288x1024, .f32⟩
  | 26 => ⟨S1x1024, .f32⟩
  | 27 => ⟨S1024, .f32⟩
  | 28 => ⟨S1x1x1024, .f32⟩
  | 29 => ⟨S32x288x1024, .f32⟩
  | 30 => ⟨S32x288x1024, .f32⟩
  | 31 => ⟨S32x288x1024, .f32⟩
  | 32 => ⟨S1x1024, .f32⟩
  | 33 => ⟨S1024, .f32⟩
  | 34 => ⟨S1x1024, .f32⟩
  | 35 => ⟨S1024, .f32⟩
  | 36 => ⟨S_, .f32⟩
  | 37 => ⟨S32x288, .f32⟩
  | 38 => ⟨S32x288x1, .f32⟩
  | 39 => ⟨S_, .f32⟩
  | 40 => ⟨S32x288x1, .f32⟩
  | 41 => ⟨S32x288x1, .f32⟩
  | 42 => ⟨S32x288x1024, .f32⟩
  | 43 => ⟨S32x288x1024, .f32⟩
  | 44 => ⟨S32x288x1024, .f32⟩
  | 45 => ⟨S_, .f32⟩
  | 46 => ⟨S32x288, .f32⟩
  | 47 => ⟨S32x288x1, .f32⟩
  | 48 => ⟨S_, .f32⟩
  | 49 => ⟨S32x288x1, .f32⟩
  | 50 => ⟨S32x288x1, .f32⟩
  | 51 => ⟨S32x288x1024, .f32⟩
  | 52 => ⟨S32x288x1024, .f32⟩
  | 53 => ⟨S_, .f32⟩
  | 54 => ⟨S32x288x1, .f32⟩
  | 55 => ⟨S32x288x1, .f32⟩
  | 56 => ⟨S32x288x1, .f32⟩
  | 57 => ⟨S32x288x1024, .f32⟩
  | 58 => ⟨S32x288x1024, .f32⟩
  | 59 => ⟨S1x1x1024, .f32⟩
  | 60 => ⟨S32x288x1024, .f32⟩
  | 61 => ⟨S32x288x1024, .f32⟩
  | 62 => ⟨S1x1x1024, .f32⟩
  | 63 => ⟨S32x288x1024, .f32⟩
  | 64 => ⟨S32x288x1024, .f32⟩
  | 65 => ⟨S1x1024x1024, .f32⟩
  | 66 => ⟨S1024x1024, .f32⟩
  | 67 => ⟨S1x1024, .f32⟩
  | 68 => ⟨S1024, .f32⟩
  | 69 => ⟨S1x1024x2048, .f32⟩
  | 70 => ⟨S1024x2048, .f32⟩
  | 71 => ⟨S1x2048, .f32⟩
  | 72 => ⟨S2048, .f32⟩
  | 73 => ⟨S1x1024x1024, .f32⟩
  | 74 => ⟨S1024x1024, .f32⟩
  | 75 => ⟨S1x1024, .f32⟩
  | 76 => ⟨S1024, .f32⟩
  | 77 => ⟨S32x288x1024, .f32⟩
  | 78 => ⟨S1x1x1024, .f32⟩
  | 79 => ⟨S32x288x1024, .f32⟩
  | 80 => ⟨S32x288x1024, .f32⟩
  | 81 => ⟨S32x288x8x128, .f32⟩
  | 82 => ⟨S32x288x2048, .f32⟩
  | 83 => ⟨S1x1x2048, .f32⟩
  | 84 => ⟨S32x288x2048, .f32⟩
  | 85 => ⟨S32x288x2048, .f32⟩
  | 86 => ⟨S32x288x2x8x128, .f32⟩
  | 87 => ⟨S32x288x1x8x128, .f32⟩
  | 88 => ⟨S32x288x8x128, .f32⟩
  | 89 => ⟨S32x288x1x8x128, .f32⟩
  | 90 => ⟨S32x288x8x128, .f32⟩
  | 91 => ⟨S32x8x288x288, .f32⟩
  | 92 => ⟨S32x288x288x8, .f32⟩
  | 93 => ⟨S_, .f32⟩
  | 94 => ⟨S32x288x288x8, .f32⟩
  | 95 => ⟨S32x288x288x8, .f32⟩
  | 96 => ⟨S_, .f32⟩
  | 97 => ⟨S32x288x8, .f32⟩
  | 98 => ⟨S_, .f32⟩
  | 99 => ⟨S32x288x8, .f32⟩
  | 100 => ⟨S32x288x8, .f32⟩
  | 101 => ⟨S32x288x1x8, .f32⟩
  | 102 => ⟨S32x288x288x8, .f32⟩
  | 103 => ⟨S32x288x288x8, .f32⟩
  | 104 => ⟨S32x288x288x8, .f32⟩
  | 105 => ⟨S_, .f32⟩
  | 106 => ⟨S32x288x8, .f32⟩
  | 107 => ⟨S32x288x1x8, .f32⟩
  | 108 => ⟨S32x288x288x8, .f32⟩
  | 109 => ⟨S32x288x288x8, .f32⟩
  | 110 => ⟨S32x8x128x288, .f32⟩
  | 111 => ⟨S32x288x8x128, .f32⟩
  | 112 => ⟨S32x288x1024, .f32⟩
  | 113 => ⟨S32x288x1024, .f32⟩
  | 114 => ⟨S1x1x1024, .f32⟩
  | 115 => ⟨S32x288x1024, .f32⟩
  | 116 => ⟨S32x288x1024, .f32⟩
  | 117 => ⟨S32x288x1024, .f32⟩
  | 118 => ⟨S1x1024, .f32⟩
  | 119 => ⟨S1024, .f32⟩
  | 120 => ⟨S1x1024, .f32⟩
  | 121 => ⟨S1024, .f32⟩
  | 122 => ⟨S_, .f32⟩
  | 123 => ⟨S32x288, .f32⟩
  | 124 => ⟨S32x288x1, .f32⟩
  | 125 => ⟨S_, .f32⟩
  | 126 => ⟨S32x288x1, .f32⟩
  | 127 => ⟨S32x288x1, .f32⟩
  | _ => ⟨S32x768, .f32⟩

abbrev hbmTy0_2 (i : Nat) : BufTy := match i % 128 with
  | 0 => ⟨S32x288x1024, .f32⟩
  | 1 => ⟨S32x288x1024, .f32⟩
  | 2 => ⟨S32x288x1024, .f32⟩
  | 3 => ⟨S_, .f32⟩
  | 4 => ⟨S32x288, .f32⟩
  | 5 => ⟨S32x288x1, .f32⟩
  | 6 => ⟨S_, .f32⟩
  | 7 => ⟨S32x288x1, .f32⟩
  | 8 => ⟨S32x288x1, .f32⟩
  | 9 => ⟨S32x288x1024, .f32⟩
  | 10 => ⟨S32x288x1024, .f32⟩
  | 11 => ⟨S_, .f32⟩
  | 12 => ⟨S32x288x1, .f32⟩
  | 13 => ⟨S32x288x1, .f32⟩
  | 14 => ⟨S32x288x1, .f32⟩
  | 15 => ⟨S32x288x1024, .f32⟩
  | 16 => ⟨S32x288x1024, .f32⟩
  | 17 => ⟨S1x1x1024, .f32⟩
  | 18 => ⟨S32x288x1024, .f32⟩
  | 19 => ⟨S32x288x1024, .f32⟩
  | 20 => ⟨S1x1x1024, .f32⟩
  | 21 => ⟨S32x288x1024, .f32⟩
  | 22 => ⟨S32x288x1024, .f32⟩
  | 23 => ⟨S1x1024x2048, .f32⟩
  | 24 => ⟨S1024x2048, .f32⟩
  | 25 => ⟨S32x288x2048, .f32⟩
  | 26 => ⟨S1x2048, .f32⟩
  | 27 => ⟨S2048, .f32⟩
  | 28 => ⟨S1x1x2048, .f32⟩
  | 29 => ⟨S32x288x2048, .f32⟩
  | 30 => ⟨S32x288x2048, .f32⟩
  | 31 => ⟨S_, .f32⟩
  | 32 => ⟨S32x288x2048, .f32⟩
  | 33 => ⟨S32x288x2048, .f32⟩
  | 34 => ⟨S1x2048x1024, .f32⟩
  | 35 => ⟨S2048x1024, .f32⟩
  | 36 => ⟨S32x288x1024, .f32⟩
  | 37 => ⟨S1x1024, .f32⟩
  | 38 => ⟨S1024, .f32⟩
  | 39 => ⟨S1x1x1024, .f32⟩
  | 40 => ⟨S32x288x1024, .f32⟩
  | 41 => ⟨S32x288x1024, .f32⟩
  | 42 => ⟨S32x288x1024, .f32⟩
  | 43 => ⟨S32x32x1024, .f32⟩
  | 44 => ⟨S32x32x768, .f32⟩
  | 45 => ⟨S1x1x768, .f32⟩
  | 46 => ⟨S32x32x768, .f32⟩
  | 47 => ⟨S32x32x768, .f32⟩
  | 48 => ⟨S32x32x768, .f32⟩
  | 49 => ⟨S32x32x768, .f32⟩
  | 50 => ⟨S_, .f32⟩
  | 51 => ⟨S32x32x768, .f32⟩
  | 52 => ⟨S32x32x768, .f32⟩
  | 53 => ⟨S_, .f32⟩
  | 54 => ⟨S32x32x768, .f32⟩
  | 55 => ⟨S32x32x768, .f32⟩
  | 56 => ⟨S32x16x768, .f32⟩
  | 57 => ⟨S32x128, .f32⟩
  | 58 => ⟨S32x1, .f32⟩
  | 59 => ⟨S32, .f32⟩
  | 60 => ⟨S32, .i32⟩
  | _ => ⟨S32x768, .f32⟩

abbrev hbmTy (i : Nat) : BufTy := match i / 128 with
  | 0 => hbmTy0_0 i
  | 1 => hbmTy0_1 i
  | 2 => hbmTy0_2 i
  | _ => ⟨S32x768, .f32⟩

abbrev bufTy : (tb : Table) → Fin (tcTables nBuf tb) → BufTy
  | .hbm, ⟨i, _⟩ => hbmTy i
  | .local _ .vmem, ⟨0, _⟩ => ⟨S32x32x768, .f32⟩
  | .local _ .vmem, ⟨1, _⟩ => ⟨S32x768, .f32⟩
  | .local _ .vmem, ⟨2, _⟩ => ⟨S32x16x768, .f32⟩
  | .local _ .vmem, ⟨3, _⟩ => ⟨S32x128, .f32⟩
  | _, _ => ⟨S32x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_cst : Ref sig .tc := ⟨.hbm, 25, rfl⟩
abbrev main_v6 : Ref sig .tc := ⟨.hbm, 26, rfl⟩
abbrev main_v7 : Ref sig .tc := ⟨.hbm, 27, rfl⟩
abbrev main_cst_0 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_cst_1 : Ref sig .tc := ⟨.hbm, 34, rfl⟩
abbrev main_v13 : Ref sig .tc := ⟨.hbm, 35, rfl⟩
abbrev main_v14 : Ref sig .tc := ⟨.hbm, 36, rfl⟩
abbrev main_cst_2 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst_3 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_4 : Ref sig .tc := ⟨.hbm, 82, rfl⟩
abbrev main_v58 : Ref sig .tc := ⟨.hbm, 83, rfl⟩
abbrev main_v59 : Ref sig .tc := ⟨.hbm, 84, rfl⟩
abbrev main_cst_5 : Ref sig .tc := ⟨.hbm, 85, rfl⟩
abbrev main_v60 : Ref sig .tc := ⟨.hbm, 86, rfl⟩
abbrev main_cst_6 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_7 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_cst_8 : Ref sig .tc := ⟨.hbm, 111, rfl⟩
abbrev main_v83 : Ref sig .tc := ⟨.hbm, 112, rfl⟩
abbrev main_v84 : Ref sig .tc := ⟨.hbm, 113, rfl⟩
abbrev main_cst_9 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_cst_10 : Ref sig .tc := ⟨.hbm, 120, rfl⟩
abbrev main_v90 : Ref sig .tc := ⟨.hbm, 121, rfl⟩
abbrev main_v91 : Ref sig .tc := ⟨.hbm, 122, rfl⟩
abbrev main_cst_11 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_cst_12 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_call0_cst : Ref sig .tc := ⟨.hbm, 148, rfl⟩
abbrev main_call0_v0 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_cst_13 : Ref sig .tc := ⟨.hbm, 164, rfl⟩
abbrev main_v129 : Ref sig .tc := ⟨.hbm, 165, rfl⟩
abbrev main_v130 : Ref sig .tc := ⟨.hbm, 166, rfl⟩
abbrev main_cst_14 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_cst_15 : Ref sig .tc := ⟨.hbm, 173, rfl⟩
abbrev main_v136 : Ref sig .tc := ⟨.hbm, 174, rfl⟩
abbrev main_v137 : Ref sig .tc := ⟨.hbm, 175, rfl⟩
abbrev main_cst_16 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_cst_17 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_v159 : Ref sig .tc := ⟨.hbm, 199, rfl⟩
abbrev main_v160 : Ref sig .tc := ⟨.hbm, 200, rfl⟩
abbrev main_v161 : Ref sig .tc := ⟨.hbm, 201, rfl⟩
abbrev main_v162 : Ref sig .tc := ⟨.hbm, 202, rfl⟩
abbrev main_v163 : Ref sig .tc := ⟨.hbm, 203, rfl⟩
abbrev main_v164 : Ref sig .tc := ⟨.hbm, 204, rfl⟩
abbrev main_v165 : Ref sig .tc := ⟨.hbm, 205, rfl⟩
abbrev main_v166 : Ref sig .tc := ⟨.hbm, 206, rfl⟩
abbrev main_v167 : Ref sig .tc := ⟨.hbm, 207, rfl⟩
abbrev main_v168 : Ref sig .tc := ⟨.hbm, 208, rfl⟩
abbrev main_v169 : Ref sig .tc := ⟨.hbm, 209, rfl⟩
abbrev main_v170 : Ref sig .tc := ⟨.hbm, 210, rfl⟩
abbrev main_v171 : Ref sig .tc := ⟨.hbm, 211, rfl⟩
abbrev main_v172 : Ref sig .tc := ⟨.hbm, 212, rfl⟩
abbrev main_v173 : Ref sig .tc := ⟨.hbm, 213, rfl⟩
abbrev main_v174 : Ref sig .tc := ⟨.hbm, 214, rfl⟩
abbrev main_v175 : Ref sig .tc := ⟨.hbm, 215, rfl⟩
abbrev main_v176 : Ref sig .tc := ⟨.hbm, 216, rfl⟩
abbrev main_v177 : Ref sig .tc := ⟨.hbm, 217, rfl⟩
abbrev main_v178 : Ref sig .tc := ⟨.hbm, 218, rfl⟩
abbrev main_v179 : Ref sig .tc := ⟨.hbm, 219, rfl⟩
abbrev main_v180 : Ref sig .tc := ⟨.hbm, 220, rfl⟩
abbrev main_cst_18 : Ref sig .tc := ⟨.hbm, 221, rfl⟩
abbrev main_v181 : Ref sig .tc := ⟨.hbm, 222, rfl⟩
abbrev main_v182 : Ref sig .tc := ⟨.hbm, 223, rfl⟩
abbrev main_cst_19 : Ref sig .tc := ⟨.hbm, 224, rfl⟩
abbrev main_v183 : Ref sig .tc := ⟨.hbm, 225, rfl⟩
abbrev main_cst_20 : Ref sig .tc := ⟨.hbm, 226, rfl⟩
abbrev main_v184 : Ref sig .tc := ⟨.hbm, 227, rfl⟩
abbrev main_v185 : Ref sig .tc := ⟨.hbm, 228, rfl⟩
abbrev main_v186 : Ref sig .tc := ⟨.hbm, 229, rfl⟩
abbrev main_v187 : Ref sig .tc := ⟨.hbm, 230, rfl⟩
abbrev main_v188 : Ref sig .tc := ⟨.hbm, 231, rfl⟩
abbrev main_v189 : Ref sig .tc := ⟨.hbm, 232, rfl⟩
abbrev main_cst_21 : Ref sig .tc := ⟨.hbm, 233, rfl⟩
abbrev main_v190 : Ref sig .tc := ⟨.hbm, 234, rfl⟩
abbrev main_v191 : Ref sig .tc := ⟨.hbm, 235, rfl⟩
abbrev main_v192 : Ref sig .tc := ⟨.hbm, 236, rfl⟩
abbrev main_v193 : Ref sig .tc := ⟨.hbm, 237, rfl⟩
abbrev main_v194 : Ref sig .tc := ⟨.hbm, 238, rfl⟩
abbrev main_v195 : Ref sig .tc := ⟨.hbm, 239, rfl⟩
abbrev main_v196 : Ref sig .tc := ⟨.hbm, 240, rfl⟩
abbrev main_v197 : Ref sig .tc := ⟨.hbm, 241, rfl⟩
abbrev main_v198 : Ref sig .tc := ⟨.hbm, 242, rfl⟩
abbrev main_v199 : Ref sig .tc := ⟨.hbm, 243, rfl⟩
abbrev main_v200 : Ref sig .tc := ⟨.hbm, 244, rfl⟩
abbrev main_v201 : Ref sig .tc := ⟨.hbm, 245, rfl⟩
abbrev main_v202 : Ref sig .tc := ⟨.hbm, 246, rfl⟩
abbrev main_v203 : Ref sig .tc := ⟨.hbm, 247, rfl⟩
abbrev main_v204 : Ref sig .tc := ⟨.hbm, 248, rfl⟩
abbrev main_v205 : Ref sig .tc := ⟨.hbm, 249, rfl⟩
abbrev main_cst_22 : Ref sig .tc := ⟨.hbm, 250, rfl⟩
abbrev main_v206 : Ref sig .tc := ⟨.hbm, 251, rfl⟩
abbrev main_v207 : Ref sig .tc := ⟨.hbm, 252, rfl⟩
abbrev main_cst_23 : Ref sig .tc := ⟨.hbm, 253, rfl⟩
abbrev main_v208 : Ref sig .tc := ⟨.hbm, 254, rfl⟩
abbrev main_v209 : Ref sig .tc := ⟨.hbm, 255, rfl⟩
abbrev main_v210 : Ref sig .tc := ⟨.hbm, 256, rfl⟩
abbrev main_v211 : Ref sig .tc := ⟨.hbm, 257, rfl⟩
abbrev main_v212 : Ref sig .tc := ⟨.hbm, 258, rfl⟩
abbrev main_cst_24 : Ref sig .tc := ⟨.hbm, 259, rfl⟩
abbrev main_v213 : Ref sig .tc := ⟨.hbm, 260, rfl⟩
abbrev main_v214 : Ref sig .tc := ⟨.hbm, 261, rfl⟩
abbrev main_cst_25 : Ref sig .tc := ⟨.hbm, 262, rfl⟩
abbrev main_v215 : Ref sig .tc := ⟨.hbm, 263, rfl⟩
abbrev main_v216 : Ref sig .tc := ⟨.hbm, 264, rfl⟩
abbrev main_v217 : Ref sig .tc := ⟨.hbm, 265, rfl⟩
abbrev main_v218 : Ref sig .tc := ⟨.hbm, 266, rfl⟩
abbrev main_cst_26 : Ref sig .tc := ⟨.hbm, 267, rfl⟩
abbrev main_v219 : Ref sig .tc := ⟨.hbm, 268, rfl⟩
abbrev main_v220 : Ref sig .tc := ⟨.hbm, 269, rfl⟩
abbrev main_v221 : Ref sig .tc := ⟨.hbm, 270, rfl⟩
abbrev main_v222 : Ref sig .tc := ⟨.hbm, 271, rfl⟩
abbrev main_v223 : Ref sig .tc := ⟨.hbm, 272, rfl⟩
abbrev main_v224 : Ref sig .tc := ⟨.hbm, 273, rfl⟩
abbrev main_v225 : Ref sig .tc := ⟨.hbm, 274, rfl⟩
abbrev main_v226 : Ref sig .tc := ⟨.hbm, 275, rfl⟩
abbrev main_v227 : Ref sig .tc := ⟨.hbm, 276, rfl⟩
abbrev main_v228 : Ref sig .tc := ⟨.hbm, 277, rfl⟩
abbrev main_v229 : Ref sig .tc := ⟨.hbm, 278, rfl⟩
abbrev main_v230 : Ref sig .tc := ⟨.hbm, 279, rfl⟩
abbrev main_v231 : Ref sig .tc := ⟨.hbm, 280, rfl⟩
abbrev main_v232 : Ref sig .tc := ⟨.hbm, 281, rfl⟩
abbrev main_v233 : Ref sig .tc := ⟨.hbm, 282, rfl⟩
abbrev main_v234 : Ref sig .tc := ⟨.hbm, 283, rfl⟩
abbrev main_v235 : Ref sig .tc := ⟨.hbm, 284, rfl⟩
abbrev main_v236 : Ref sig .tc := ⟨.hbm, 285, rfl⟩
abbrev main_v237 : Ref sig .tc := ⟨.hbm, 286, rfl⟩
abbrev main_call1_cst : Ref sig .tc := ⟨.hbm, 287, rfl⟩
abbrev main_call1_v0 : Ref sig .tc := ⟨.hbm, 288, rfl⟩
abbrev main_v238 : Ref sig .tc := ⟨.hbm, 289, rfl⟩
abbrev main_v239 : Ref sig .tc := ⟨.hbm, 290, rfl⟩
abbrev main_v240 : Ref sig .tc := ⟨.hbm, 291, rfl⟩
abbrev main_v241 : Ref sig .tc := ⟨.hbm, 292, rfl⟩
abbrev main_v242 : Ref sig .tc := ⟨.hbm, 293, rfl⟩
abbrev main_v243 : Ref sig .tc := ⟨.hbm, 294, rfl⟩
abbrev main_v244 : Ref sig .tc := ⟨.hbm, 295, rfl⟩
abbrev main_v245 : Ref sig .tc := ⟨.hbm, 296, rfl⟩
abbrev main_v246 : Ref sig .tc := ⟨.hbm, 297, rfl⟩
abbrev main_v247 : Ref sig .tc := ⟨.hbm, 298, rfl⟩
abbrev main_v248 : Ref sig .tc := ⟨.hbm, 299, rfl⟩
abbrev main_v249 : Ref sig .tc := ⟨.hbm, 300, rfl⟩
abbrev main_v250 : Ref sig .tc := ⟨.hbm, 301, rfl⟩
abbrev main_v251 : Ref sig .tc := ⟨.hbm, 302, rfl⟩
abbrev main_v252 : Ref sig .tc := ⟨.hbm, 303, rfl⟩
abbrev main_v253 : Ref sig .tc := ⟨.hbm, 304, rfl⟩
abbrev main_v254 : Ref sig .tc := ⟨.hbm, 305, rfl⟩
abbrev main_cst_27 : Ref sig .tc := ⟨.hbm, 306, rfl⟩
abbrev main_v255 : Ref sig .tc := ⟨.hbm, 307, rfl⟩
abbrev main_v256 : Ref sig .tc := ⟨.hbm, 308, rfl⟩
abbrev main_cst_28 : Ref sig .tc := ⟨.hbm, 309, rfl⟩
abbrev main_v257 : Ref sig .tc := ⟨.hbm, 310, rfl⟩
abbrev main_v258 : Ref sig .tc := ⟨.hbm, 311, rfl⟩
abbrev main_v259_0 : Ref sig .tc := ⟨.hbm, 312, rfl⟩
abbrev main_v259_1 : Ref sig .tc := ⟨.hbm, 313, rfl⟩
abbrev main_v260 : Ref sig .tc := ⟨.hbm, 314, rfl⟩
abbrev main_v261 : Ref sig .tc := ⟨.hbm, 315, rfl⟩
abbrev main_v262 : Ref sig .tc := ⟨.hbm, 316, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S32x32x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S32x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x16x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S32x768 : Shape := ⟨2, ![32, 768]⟩
abbrev S32x256x1024 : Shape := ⟨3, ![32, 256, 1024]⟩
abbrev S1x32x1024 : Shape := ⟨3, ![1, 32, 1024]⟩
abbrev S2x1024x1024 : Shape := ⟨3, ![2, 1024, 1024]⟩
abbrev S2x1024 : Shape := ⟨2, ![2, 1024]⟩
abbrev S2x1024x2048 : Shape := ⟨3, ![2, 1024, 2048]⟩
abbrev S2x2048 : Shape := ⟨2, ![2, 2048]⟩
abbrev S2x2048x1024 : Shape := ⟨3, ![2, 2048, 1024]⟩
abbrev S1024x768 : Shape := ⟨2, ![1024, 768]⟩
abbrev S768 : Shape := ⟨1, ![768]⟩
abbrev S32x32x1024 : Shape := ⟨3, ![32, 32, 1024]⟩
abbrev S32x288x1024 : Shape := ⟨3, ![32, 288, 1024]⟩
abbrev S1x1024 : Shape := ⟨2, ![1, 1024]⟩
abbrev S1024 : Shape := ⟨1, ![1024]⟩
abbrev S_ : Shape := ⟨0, ![]⟩
abbrev S32x288 : Shape := ⟨2, ![32, 288]⟩
abbrev S32x288x1 : Shape := ⟨3, ![32, 288, 1]⟩
abbrev S1x1x1024 : Shape := ⟨3, ![1, 1, 1024]⟩
abbrev S1x1024x1024 : Shape := ⟨3, ![1, 1024, 1024]⟩
abbrev S1024x1024 : Shape := ⟨2, ![1024, 1024]⟩
abbrev S1x1024x2048 : Shape := ⟨3, ![1, 1024, 2048]⟩
abbrev S1024x2048 : Shape := ⟨2, ![1024, 2048]⟩
abbrev S1x2048 : Shape := ⟨2, ![1, 2048]⟩
abbrev S2048 : Shape := ⟨1, ![2048]⟩
abbrev S32x288x8x128 : Shape := ⟨4, ![32, 288, 8, 128]⟩
abbrev S32x288x2048 : Shape := ⟨3, ![32, 288, 2048]⟩
abbrev S1x1x2048 : Shape := ⟨3, ![1, 1, 2048]⟩
abbrev S32x288x2x8x128 : Shape := ⟨5, ![32, 288, 2, 8, 128]⟩
abbrev S32x288x1x8x128 : Shape := ⟨5, ![32, 288, 1, 8, 128]⟩
abbrev S32x8x288x288 : Shape := ⟨4, ![32, 8, 288, 288]⟩
abbrev S32x288x288x8 : Shape := ⟨4, ![32, 288, 288, 8]⟩
abbrev S32x288x8 : Shape := ⟨3, ![32, 288, 8]⟩
abbrev S32x288x1x8 : Shape := ⟨4, ![32, 288, 1, 8]⟩
abbrev S32x8x128x288 : Shape := ⟨4, ![32, 8, 128, 288]⟩
abbrev S1x2048x1024 : Shape := ⟨3, ![1, 2048, 1024]⟩
abbrev S2048x1024 : Shape := ⟨2, ![2048, 1024]⟩
abbrev S32x32x768 : Shape := ⟨3, ![32, 32, 768]⟩
abbrev S1x1x768 : Shape := ⟨3, ![1, 1, 768]⟩
abbrev S32x768x1 : Shape := ⟨3, ![32, 768, 1]⟩
abbrev S32x32x1 : Shape := ⟨3, ![32, 32, 1]⟩
abbrev S32x32 : Shape := ⟨2, ![32, 32]⟩
abbrev S32 : Shape := ⟨1, ![32]⟩
abbrev S32x1 : Shape := ⟨2, ![32, 1]⟩
abbrev S32x16 : Shape := ⟨2, ![32, 16]⟩
abbrev S16 : Shape := ⟨1, ![16]⟩
abbrev S1x16 : Shape := ⟨2, ![1, 16]⟩
abbrev S32x16x1 : Shape := ⟨3, ![32, 16, 1]⟩
abbrev S1 : Shape := ⟨1, ![1]⟩
abbrev S1x1x1 : Shape := ⟨3, ![1, 1, 1]⟩
abbrev S32x16x768 : Shape := ⟨3, ![32, 16, 768]⟩

abbrev nBuf : Space → Nat
  | .hbm => 420
  | .vmem => 0
  | .smem => 0
  | _ => 0

abbrev hbmTy0_0 (i : Nat) : BufTy := match i % 128 with
  | 0 => ⟨S32x768, .f32⟩
  | 1 => ⟨S32x256x1024, .f32⟩
  | 2 => ⟨S1x32x1024, .f32⟩
  | 3 => ⟨S2x1024x1024, .f32⟩
  | 4 => ⟨S2x1024, .f32⟩
  | 5 => ⟨S2x1024x2048, .f32⟩
  | 6 => ⟨S2x2048, .f32⟩
  | 7 => ⟨S2x1024x1024, .f32⟩
  | 8 => ⟨S2x1024, .f32⟩
  | 9 => ⟨S2x1024, .f32⟩
  | 10 => ⟨S2x1024, .f32⟩
  | 11 => ⟨S2x1024, .f32⟩
  | 12 => ⟨S2x1024, .f32⟩
  | 13 => ⟨S2x1024x2048, .f32⟩
  | 14 => ⟨S2x2048, .f32⟩
  | 15 => ⟨S2x2048x1024, .f32⟩
  | 16 => ⟨S2x1024, .f32⟩
  | 17 => ⟨S1024x768, .f32⟩
  | 18 => ⟨S768, .f32⟩
  | 19 => ⟨S32x32x1024, .f32⟩
  | 20 => ⟨S32x288x1024, .f32⟩
  | 21 => ⟨S1x1024, .f32⟩
  | 22 => ⟨S1024, .f32⟩
  | 23 => ⟨S1x1024, .f32⟩
  | 24 => ⟨S1024, .f32⟩
  | 25 => ⟨S_, .f32⟩
  | 26 => ⟨S32x288, .f32⟩
  | 27 => ⟨S32x288x1, .f32⟩
  | 28 => ⟨S_, .f32⟩
  | 29 => ⟨S32x288x1, .f32⟩
  | 30 => ⟨S32x288x1, .f32⟩
  | 31 => ⟨S32x288x1024, .f32⟩
  | 32 => ⟨S32x288x1024, .f32⟩
  | 33 => ⟨S32x288x1024, .f32⟩
  | 34 => ⟨S_, .f32⟩
  | 35 => ⟨S32x288, .f32⟩
  | 36 => ⟨S32x288x1, .f32⟩
  | 37 => ⟨S_, .f32⟩
  | 38 => ⟨S32x288x1, .f32⟩
  | 39 => ⟨S32x288x1, .f32⟩
  | 40 => ⟨S32x288x1024, .f32⟩
  | 41 => ⟨S32x288x1024, .f32⟩
  | 42 => ⟨S_, .f32⟩
  | 43 => ⟨S32x288x1, .f32⟩
  | 44 => ⟨S32x288x1, .f32⟩
  | 45 => ⟨S32x288x1, .f32⟩
  | 46 => ⟨S32x288x1024, .f32⟩
  | 47 => ⟨S32x288x1024, .f32⟩
  | 48 => ⟨S1x1x1024, .f32⟩
  | 49 => ⟨S32x288x1024, .f32⟩
  | 50 => ⟨S32x288x1024, .f32⟩
  | 51 => ⟨S1x1x1024, .f32⟩
  | 52 => ⟨S32x288x1024, .f32⟩
  | 53 => ⟨S32x288x1024, .f32⟩
  | 54 => ⟨S1x1024x1024, .f32⟩
  | 55 => ⟨S1024x1024, .f32⟩
  | 56 => ⟨S1x1024, .f32⟩
  | 57 => ⟨S1024, .f32⟩
  | 58 => ⟨S1x1024x2048, .f32⟩
  | 59 => ⟨S1024x2048, .f32⟩
  | 60 => ⟨S1x2048, .f32⟩
  | 61 => ⟨S2048, .f32⟩
  | 62 => ⟨S1x1024x1024, .f32⟩
  | 63 => ⟨S1024x1024, .f32⟩
  | 64 => ⟨S1x1024, .f32⟩
  | 65 => ⟨S1024, .f32⟩
  | 66 => ⟨S32x288x1024, .f32⟩
  | 67 => ⟨S1x1x1024, .f32⟩
  | 68 => ⟨S32x288x1024, .f32⟩
  | 69 => ⟨S32x288x1024, .f32⟩
  | 70 => ⟨S32x288x8x128, .f32⟩
  | 71 => ⟨S32x288x2048, .f32⟩
  | 72 => ⟨S1x1x2048, .f32⟩
  | 73 => ⟨S32x288x2048, .f32⟩
  | 74 => ⟨S32x288x2048, .f32⟩
  | 75 => ⟨S32x288x2x8x128, .f32⟩
  | 76 => ⟨S32x288x1x8x128, .f32⟩
  | 77 => ⟨S32x288x8x128, .f32⟩
  | 78 => ⟨S32x288x1x8x128, .f32⟩
  | 79 => ⟨S32x288x8x128, .f32⟩
  | 80 => ⟨S32x8x288x288, .f32⟩
  | 81 => ⟨S32x288x288x8, .f32⟩
  | 82 => ⟨S_, .f32⟩
  | 83 => ⟨S32x288x288x8, .f32⟩
  | 84 => ⟨S32x288x288x8, .f32⟩
  | 85 => ⟨S_, .f32⟩
  | 86 => ⟨S32x288x8, .f32⟩
  | 87 => ⟨S_, .f32⟩
  | 88 => ⟨S32x288x8, .f32⟩
  | 89 => ⟨S32x288x8, .f32⟩
  | 90 => ⟨S32x288x1x8, .f32⟩
  | 91 => ⟨S32x288x288x8, .f32⟩
  | 92 => ⟨S32x288x288x8, .f32⟩
  | 93 => ⟨S32x288x288x8, .f32⟩
  | 94 => ⟨S_, .f32⟩
  | 95 => ⟨S32x288x8, .f32⟩
  | 96 => ⟨S32x288x1x8, .f32⟩
  | 97 => ⟨S32x288x288x8, .f32⟩
  | 98 => ⟨S32x288x288x8, .f32⟩
  | 99 => ⟨S32x8x128x288, .f32⟩
  | 100 => ⟨S32x288x8x128, .f32⟩
  | 101 => ⟨S32x288x1024, .f32⟩
  | 102 => ⟨S32x288x1024, .f32⟩
  | 103 => ⟨S1x1x1024, .f32⟩
  | 104 => ⟨S32x288x1024, .f32⟩
  | 105 => ⟨S32x288x1024, .f32⟩
  | 106 => ⟨S32x288x1024, .f32⟩
  | 107 => ⟨S1x1024, .f32⟩
  | 108 => ⟨S1024, .f32⟩
  | 109 => ⟨S1x1024, .f32⟩
  | 110 => ⟨S1024, .f32⟩
  | 111 => ⟨S_, .f32⟩
  | 112 => ⟨S32x288, .f32⟩
  | 113 => ⟨S32x288x1, .f32⟩
  | 114 => ⟨S_, .f32⟩
  | 115 => ⟨S32x288x1, .f32⟩
  | 116 => ⟨S32x288x1, .f32⟩
  | 117 => ⟨S32x288x1024, .f32⟩
  | 118 => ⟨S32x288x1024, .f32⟩
  | 119 => ⟨S32x288x1024, .f32⟩
  | 120 => ⟨S_, .f32⟩
  | 121 => ⟨S32x288, .f32⟩
  | 122 => ⟨S32x288x1, .f32⟩
  | 123 => ⟨S_, .f32⟩
  | 124 => ⟨S32x288x1, .f32⟩
  | 125 => ⟨S32x288x1, .f32⟩
  | 126 => ⟨S32x288x1024, .f32⟩
  | 127 => ⟨S32x288x1024, .f32⟩
  | _ => ⟨S32x768, .f32⟩

abbrev hbmTy0_1 (i : Nat) : BufTy := match i % 128 with
  | 0 => ⟨S_, .f32⟩
  | 1 => ⟨S32x288x1, .f32⟩
  | 2 => ⟨S32x288x1, .f32⟩
  | 3 => ⟨S32x288x1, .f32⟩
  | 4 => ⟨S32x288x1024, .f32⟩
  | 5 => ⟨S32x288x1024, .f32⟩
  | 6 => ⟨S1x1x1024, .f32⟩
  | 7 => ⟨S32x288x1024, .f32⟩
  | 8 => ⟨S32x288x1024, .f32⟩
  | 9 => ⟨S1x1x1024, .f32⟩
  | 10 => ⟨S32x288x1024, .f32⟩
  | 11 => ⟨S32x288x1024, .f32⟩
  | 12 => ⟨S1x1024x2048, .f32⟩
  | 13 => ⟨S1024x2048, .f32⟩
  | 14 => ⟨S32x288x2048, .f32⟩
  | 15 => ⟨S1x2048, .f32⟩
  | 16 => ⟨S2048, .f32⟩
  | 17 => ⟨S1x1x2048, .f32⟩
  | 18 => ⟨S32x288x2048, .f32⟩
  | 19 => ⟨S32x288x2048, .f32⟩
  | 20 => ⟨S_, .f32⟩
  | 21 => ⟨S32x288x2048, .f32⟩
  | 22 => ⟨S32x288x2048, .f32⟩
  | 23 => ⟨S1x2048x1024, .f32⟩
  | 24 => ⟨S2048x1024, .f32⟩
  | 25 => ⟨S32x288x1024, .f32⟩
  | 26 => ⟨S1x1024, .f32⟩
  | 27 => ⟨S1024, .f32⟩
  | 28 => ⟨S1x1x1024, .f32⟩
  | 29 => ⟨S32x288x1024, .f32⟩
  | 30 => ⟨S32x288x1024, .f32⟩
  | 31 => ⟨S32x288x1024, .f32⟩
  | 32 => ⟨S1x1024, .f32⟩
  | 33 => ⟨S1024, .f32⟩
  | 34 => ⟨S1x1024, .f32⟩
  | 35 => ⟨S1024, .f32⟩
  | 36 => ⟨S_, .f32⟩
  | 37 => ⟨S32x288, .f32⟩
  | 38 => ⟨S32x288x1, .f32⟩
  | 39 => ⟨S_, .f32⟩
  | 40 => ⟨S32x288x1, .f32⟩
  | 41 => ⟨S32x288x1, .f32⟩
  | 42 => ⟨S32x288x1024, .f32⟩
  | 43 => ⟨S32x288x1024, .f32⟩
  | 44 => ⟨S32x288x1024, .f32⟩
  | 45 => ⟨S_, .f32⟩
  | 46 => ⟨S32x288, .f32⟩
  | 47 => ⟨S32x288x1, .f32⟩
  | 48 => ⟨S_, .f32⟩
  | 49 => ⟨S32x288x1, .f32⟩
  | 50 => ⟨S32x288x1, .f32⟩
  | 51 => ⟨S32x288x1024, .f32⟩
  | 52 => ⟨S32x288x1024, .f32⟩
  | 53 => ⟨S_, .f32⟩
  | 54 => ⟨S32x288x1, .f32⟩
  | 55 => ⟨S32x288x1, .f32⟩
  | 56 => ⟨S32x288x1, .f32⟩
  | 57 => ⟨S32x288x1024, .f32⟩
  | 58 => ⟨S32x288x1024, .f32⟩
  | 59 => ⟨S1x1x1024, .f32⟩
  | 60 => ⟨S32x288x1024, .f32⟩
  | 61 => ⟨S32x288x1024, .f32⟩
  | 62 => ⟨S1x1x1024, .f32⟩
  | 63 => ⟨S32x288x1024, .f32⟩
  | 64 => ⟨S32x288x1024, .f32⟩
  | 65 => ⟨S1x1024x1024, .f32⟩
  | 66 => ⟨S1024x1024, .f32⟩
  | 67 => ⟨S1x1024, .f32⟩
  | 68 => ⟨S1024, .f32⟩
  | 69 => ⟨S1x1024x2048, .f32⟩
  | 70 => ⟨S1024x2048, .f32⟩
  | 71 => ⟨S1x2048, .f32⟩
  | 72 => ⟨S2048, .f32⟩
  | 73 => ⟨S1x1024x1024, .f32⟩
  | 74 => ⟨S1024x1024, .f32⟩
  | 75 => ⟨S1x1024, .f32⟩
  | 76 => ⟨S1024, .f32⟩
  | 77 => ⟨S32x288x1024, .f32⟩
  | 78 => ⟨S1x1x1024, .f32⟩
  | 79 => ⟨S32x288x1024, .f32⟩
  | 80 => ⟨S32x288x1024, .f32⟩
  | 81 => ⟨S32x288x8x128, .f32⟩
  | 82 => ⟨S32x288x2048, .f32⟩
  | 83 => ⟨S1x1x2048, .f32⟩
  | 84 => ⟨S32x288x2048, .f32⟩
  | 85 => ⟨S32x288x2048, .f32⟩
  | 86 => ⟨S32x288x2x8x128, .f32⟩
  | 87 => ⟨S32x288x1x8x128, .f32⟩
  | 88 => ⟨S32x288x8x128, .f32⟩
  | 89 => ⟨S32x288x1x8x128, .f32⟩
  | 90 => ⟨S32x288x8x128, .f32⟩
  | 91 => ⟨S32x8x288x288, .f32⟩
  | 92 => ⟨S32x288x288x8, .f32⟩
  | 93 => ⟨S_, .f32⟩
  | 94 => ⟨S32x288x288x8, .f32⟩
  | 95 => ⟨S32x288x288x8, .f32⟩
  | 96 => ⟨S_, .f32⟩
  | 97 => ⟨S32x288x8, .f32⟩
  | 98 => ⟨S_, .f32⟩
  | 99 => ⟨S32x288x8, .f32⟩
  | 100 => ⟨S32x288x8, .f32⟩
  | 101 => ⟨S32x288x1x8, .f32⟩
  | 102 => ⟨S32x288x288x8, .f32⟩
  | 103 => ⟨S32x288x288x8, .f32⟩
  | 104 => ⟨S32x288x288x8, .f32⟩
  | 105 => ⟨S_, .f32⟩
  | 106 => ⟨S32x288x8, .f32⟩
  | 107 => ⟨S32x288x1x8, .f32⟩
  | 108 => ⟨S32x288x288x8, .f32⟩
  | 109 => ⟨S32x288x288x8, .f32⟩
  | 110 => ⟨S32x8x128x288, .f32⟩
  | 111 => ⟨S32x288x8x128, .f32⟩
  | 112 => ⟨S32x288x1024, .f32⟩
  | 113 => ⟨S32x288x1024, .f32⟩
  | 114 => ⟨S1x1x1024, .f32⟩
  | 115 => ⟨S32x288x1024, .f32⟩
  | 116 => ⟨S32x288x1024, .f32⟩
  | 117 => ⟨S32x288x1024, .f32⟩
  | 118 => ⟨S1x1024, .f32⟩
  | 119 => ⟨S1024, .f32⟩
  | 120 => ⟨S1x1024, .f32⟩
  | 121 => ⟨S1024, .f32⟩
  | 122 => ⟨S_, .f32⟩
  | 123 => ⟨S32x288, .f32⟩
  | 124 => ⟨S32x288x1, .f32⟩
  | 125 => ⟨S_, .f32⟩
  | 126 => ⟨S32x288x1, .f32⟩
  | 127 => ⟨S32x288x1, .f32⟩
  | _ => ⟨S32x768, .f32⟩

abbrev hbmTy0_2 (i : Nat) : BufTy := match i % 128 with
  | 0 => ⟨S32x288x1024, .f32⟩
  | 1 => ⟨S32x288x1024, .f32⟩
  | 2 => ⟨S32x288x1024, .f32⟩
  | 3 => ⟨S_, .f32⟩
  | 4 => ⟨S32x288, .f32⟩
  | 5 => ⟨S32x288x1, .f32⟩
  | 6 => ⟨S_, .f32⟩
  | 7 => ⟨S32x288x1, .f32⟩
  | 8 => ⟨S32x288x1, .f32⟩
  | 9 => ⟨S32x288x1024, .f32⟩
  | 10 => ⟨S32x288x1024, .f32⟩
  | 11 => ⟨S_, .f32⟩
  | 12 => ⟨S32x288x1, .f32⟩
  | 13 => ⟨S32x288x1, .f32⟩
  | 14 => ⟨S32x288x1, .f32⟩
  | 15 => ⟨S32x288x1024, .f32⟩
  | 16 => ⟨S32x288x1024, .f32⟩
  | 17 => ⟨S1x1x1024, .f32⟩
  | 18 => ⟨S32x288x1024, .f32⟩
  | 19 => ⟨S32x288x1024, .f32⟩
  | 20 => ⟨S1x1x1024, .f32⟩
  | 21 => ⟨S32x288x1024, .f32⟩
  | 22 => ⟨S32x288x1024, .f32⟩
  | 23 => ⟨S1x1024x2048, .f32⟩
  | 24 => ⟨S1024x2048, .f32⟩
  | 25 => ⟨S32x288x2048, .f32⟩
  | 26 => ⟨S1x2048, .f32⟩
  | 27 => ⟨S2048, .f32⟩
  | 28 => ⟨S1x1x2048, .f32⟩
  | 29 => ⟨S32x288x2048, .f32⟩
  | 30 => ⟨S32x288x2048, .f32⟩
  | 31 => ⟨S_, .f32⟩
  | 32 => ⟨S32x288x2048, .f32⟩
  | 33 => ⟨S32x288x2048, .f32⟩
  | 34 => ⟨S1x2048x1024, .f32⟩
  | 35 => ⟨S2048x1024, .f32⟩
  | 36 => ⟨S32x288x1024, .f32⟩
  | 37 => ⟨S1x1024, .f32⟩
  | 38 => ⟨S1024, .f32⟩
  | 39 => ⟨S1x1x1024, .f32⟩
  | 40 => ⟨S32x288x1024, .f32⟩
  | 41 => ⟨S32x288x1024, .f32⟩
  | 42 => ⟨S32x288x1024, .f32⟩
  | 43 => ⟨S32x32x1024, .f32⟩
  | 44 => ⟨S32x32x768, .f32⟩
  | 45 => ⟨S1x1x768, .f32⟩
  | 46 => ⟨S32x32x768, .f32⟩
  | 47 => ⟨S32x32x768, .f32⟩
  | 48 => ⟨S32x32x768, .f32⟩
  | 49 => ⟨S32x32x768, .f32⟩
  | 50 => ⟨S_, .f32⟩
  | 51 => ⟨S32x32x768, .f32⟩
  | 52 => ⟨S32x32x768, .f32⟩
  | 53 => ⟨S_, .f32⟩
  | 54 => ⟨S32x32x768, .f32⟩
  | 55 => ⟨S32x32x768, .f32⟩
  | 56 => ⟨S32x768x1, .f32⟩
  | 57 => ⟨S32x32x1, .f32⟩
  | 58 => ⟨S32x32, .f32⟩
  | 59 => ⟨S_, .f32⟩
  | 60 => ⟨S32, .f32⟩
  | 61 => ⟨S_, .f32⟩
  | 62 => ⟨S32, .f32⟩
  | 63 => ⟨S32, .f32⟩
  | 64 => ⟨S32x1, .f32⟩
  | 65 => ⟨S32x32, .f32⟩
  | 66 => ⟨S32x32, .f32⟩
  | 67 => ⟨S32x32, .f32⟩
  | 68 => ⟨S_, .f32⟩
  | 69 => ⟨S32, .f32⟩
  | 70 => ⟨S32x1, .f32⟩
  | 71 => ⟨S32x32, .f32⟩
  | 72 => ⟨S32x32, .f32⟩
  | 73 => ⟨S32x32, .f32⟩
  | 74 => ⟨S32x32, .i32⟩
  | 75 => ⟨S32x32, .f32⟩
  | 76 => ⟨S32x32, .i32⟩
  | 77 => ⟨S32x16, .i32⟩
  | 78 => ⟨S_, .f32⟩
  | 79 => ⟨S32x32, .f32⟩
  | 80 => ⟨S32x32, .i1⟩
  | 81 => ⟨S32x32, .i32⟩
  | 82 => ⟨S_, .i32⟩
  | 83 => ⟨S32, .i32⟩
  | 84 => ⟨S_, .i32⟩
  | 85 => ⟨S32, .i32⟩
  | 86 => ⟨S32, .i32⟩
  | 87 => ⟨S_, .i32⟩
  | 88 => ⟨S_, .i32⟩
  | 89 => ⟨S_, .i32⟩
  | 90 => ⟨S32, .i32⟩
  | 91 => ⟨S32, .i32⟩
  | 92 => ⟨S_, .i32⟩
  | 93 => ⟨S32, .i32⟩
  | 94 => ⟨S32, .i32⟩
  | 95 => ⟨S16, .i32⟩
  | 96 => ⟨S1x16, .i32⟩
  | 97 => ⟨S32x1, .i32⟩
  | 98 => ⟨S32x16, .i32⟩
  | 99 => ⟨S32x16, .i32⟩
  | 100 => ⟨S32x16, .i1⟩
  | 101 => ⟨S_, .i32⟩
  | 102 => ⟨S1x16, .i32⟩
  | 103 => ⟨S1x16, .i32⟩
  | 104 => ⟨S32x16, .i32⟩
  | 105 => ⟨S32x16, .i32⟩
  | 106 => ⟨S32x16, .i32⟩
  | 107 => ⟨S32x16, .i32⟩
  | 108 => ⟨S32x16, .i32⟩
  | 109 => ⟨S_, .i32⟩
  | 110 => ⟨S32x16, .i32⟩
  | 111 => ⟨S32x16, .i1⟩
  | 112 => ⟨S_, .i32⟩
  | 113 => ⟨S32x16, .i32⟩
  | 114 => ⟨S32x16, .i32⟩
  | 115 => ⟨S32x16, .i32⟩
  | 116 => ⟨S32x16x1, .i32⟩
  | 117 => ⟨S1, .i32⟩
  | 118 => ⟨S_, .i32⟩
  | 119 => ⟨S32x16x1, .i32⟩
  | 120 => ⟨S32x16x1, .i1⟩
  | 121 => ⟨S1x1x1, .i32⟩
  | 122 => ⟨S32x16x1, .i32⟩
  | 123 => ⟨S32x16x1, .i1⟩
  | 124 => ⟨S32x16x1, .i1⟩
  | 125 => ⟨S_, .i1⟩
  | 126 => ⟨S32x16, .i1⟩
  | 127 => ⟨S32x16, .i32⟩
  | _ => ⟨S32x768, .f32⟩

abbrev hbmTy0_3 (i : Nat) : BufTy := match i % 128 with
  | 0 => ⟨S_, .i32⟩
  | 1 => ⟨S32x16, .i32⟩
  | 2 => ⟨S32x16, .i32⟩
  | 3 => ⟨S32x16x1, .i32⟩
  | 4 => ⟨S_, .i32⟩
  | 5 => ⟨S32x16x1, .i32⟩
  | 6 => ⟨S32x16x1, .i1⟩
  | 7 => ⟨S_, .i32⟩
  | 8 => ⟨S32x16x1, .i32⟩
  | 9 => ⟨S32x16x1, .i32⟩
  | 10 => ⟨S32x16x1, .i32⟩
  | 11 => ⟨S1, .i32⟩
  | 12 => ⟨S_, .i32⟩
  | 13 => ⟨S32x16x1, .i32⟩
  | 14 => ⟨S32x16x1, .i1⟩
  | 15 => ⟨S1x1x1, .i32⟩
  | 16 => ⟨S32x16x1, .i32⟩
  | 17 => ⟨S32x16x1, .i1⟩
  | 18 => ⟨S32x16x1, .i1⟩
  | 19 => ⟨S_, .i1⟩
  | 20 => ⟨S32x16, .i1⟩
  | 21 => ⟨S32x16x768, .f32⟩
  | 22 => ⟨S32x16x768, .i1⟩
  | 23 => ⟨S_, .f32⟩
  | 24 => ⟨S32x16x768, .f32⟩
  | 25 => ⟨S32x16x768, .f32⟩
  | 26 => ⟨S32x16x768, .f32⟩
  | 27 => ⟨S_, .f32⟩
  | 28 => ⟨S32x16, .f32⟩
  | 29 => ⟨S32x16x1, .f32⟩
  | 30 => ⟨S32x16x1, .f32⟩
  | 31 => ⟨S_, .f32⟩
  | 32 => ⟨S32x16x1, .f32⟩
  | 33 => ⟨S32x16x1, .f32⟩
  | 34 => ⟨S32x16x768, .f32⟩
  | 35 => ⟨S32x16x768, .f32⟩
  | _ => ⟨S32x768, .f32⟩

abbrev hbmTy (i : Nat) : BufTy := match i / 128 with
  | 0 => hbmTy0_0 i
  | 1 => hbmTy0_1 i
  | 2 => hbmTy0_2 i
  | 3 => hbmTy0_3 i
  | _ => ⟨S32x768, .f32⟩

abbrev bufTy : (tb : Table) → Fin (tcTables nBuf tb) → BufTy
  | .hbm, ⟨i, _⟩ => hbmTy i
  | _, _ => ⟨S32x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_cst : Ref sig .tc := ⟨.hbm, 25, rfl⟩
abbrev main_v6 : Ref sig .tc := ⟨.hbm, 26, rfl⟩
abbrev main_v7 : Ref sig .tc := ⟨.hbm, 27, rfl⟩
abbrev main_cst_0 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_cst_1 : Ref sig .tc := ⟨.hbm, 34, rfl⟩
abbrev main_v13 : Ref sig .tc := ⟨.hbm, 35, rfl⟩
abbrev main_v14 : Ref sig .tc := ⟨.hbm, 36, rfl⟩
abbrev main_cst_2 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst_3 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_4 : Ref sig .tc := ⟨.hbm, 82, rfl⟩
abbrev main_v58 : Ref sig .tc := ⟨.hbm, 83, rfl⟩
abbrev main_v59 : Ref sig .tc := ⟨.hbm, 84, rfl⟩
abbrev main_cst_5 : Ref sig .tc := ⟨.hbm, 85, rfl⟩
abbrev main_v60 : Ref sig .tc := ⟨.hbm, 86, rfl⟩
abbrev main_cst_6 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_7 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_cst_8 : Ref sig .tc := ⟨.hbm, 111, rfl⟩
abbrev main_v83 : Ref sig .tc := ⟨.hbm, 112, rfl⟩
abbrev main_v84 : Ref sig .tc := ⟨.hbm, 113, rfl⟩
abbrev main_cst_9 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_cst_10 : Ref sig .tc := ⟨.hbm, 120, rfl⟩
abbrev main_v90 : Ref sig .tc := ⟨.hbm, 121, rfl⟩
abbrev main_v91 : Ref sig .tc := ⟨.hbm, 122, rfl⟩
abbrev main_cst_11 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_cst_12 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_call0_cst : Ref sig .tc := ⟨.hbm, 148, rfl⟩
abbrev main_call0_v0 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_cst_13 : Ref sig .tc := ⟨.hbm, 164, rfl⟩
abbrev main_v129 : Ref sig .tc := ⟨.hbm, 165, rfl⟩
abbrev main_v130 : Ref sig .tc := ⟨.hbm, 166, rfl⟩
abbrev main_cst_14 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_cst_15 : Ref sig .tc := ⟨.hbm, 173, rfl⟩
abbrev main_v136 : Ref sig .tc := ⟨.hbm, 174, rfl⟩
abbrev main_v137 : Ref sig .tc := ⟨.hbm, 175, rfl⟩
abbrev main_cst_16 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_cst_17 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_v159 : Ref sig .tc := ⟨.hbm, 199, rfl⟩
abbrev main_v160 : Ref sig .tc := ⟨.hbm, 200, rfl⟩
abbrev main_v161 : Ref sig .tc := ⟨.hbm, 201, rfl⟩
abbrev main_v162 : Ref sig .tc := ⟨.hbm, 202, rfl⟩
abbrev main_v163 : Ref sig .tc := ⟨.hbm, 203, rfl⟩
abbrev main_v164 : Ref sig .tc := ⟨.hbm, 204, rfl⟩
abbrev main_v165 : Ref sig .tc := ⟨.hbm, 205, rfl⟩
abbrev main_v166 : Ref sig .tc := ⟨.hbm, 206, rfl⟩
abbrev main_v167 : Ref sig .tc := ⟨.hbm, 207, rfl⟩
abbrev main_v168 : Ref sig .tc := ⟨.hbm, 208, rfl⟩
abbrev main_v169 : Ref sig .tc := ⟨.hbm, 209, rfl⟩
abbrev main_v170 : Ref sig .tc := ⟨.hbm, 210, rfl⟩
abbrev main_v171 : Ref sig .tc := ⟨.hbm, 211, rfl⟩
abbrev main_v172 : Ref sig .tc := ⟨.hbm, 212, rfl⟩
abbrev main_v173 : Ref sig .tc := ⟨.hbm, 213, rfl⟩
abbrev main_v174 : Ref sig .tc := ⟨.hbm, 214, rfl⟩
abbrev main_v175 : Ref sig .tc := ⟨.hbm, 215, rfl⟩
abbrev main_v176 : Ref sig .tc := ⟨.hbm, 216, rfl⟩
abbrev main_v177 : Ref sig .tc := ⟨.hbm, 217, rfl⟩
abbrev main_v178 : Ref sig .tc := ⟨.hbm, 218, rfl⟩
abbrev main_v179 : Ref sig .tc := ⟨.hbm, 219, rfl⟩
abbrev main_v180 : Ref sig .tc := ⟨.hbm, 220, rfl⟩
abbrev main_cst_18 : Ref sig .tc := ⟨.hbm, 221, rfl⟩
abbrev main_v181 : Ref sig .tc := ⟨.hbm, 222, rfl⟩
abbrev main_v182 : Ref sig .tc := ⟨.hbm, 223, rfl⟩
abbrev main_cst_19 : Ref sig .tc := ⟨.hbm, 224, rfl⟩
abbrev main_v183 : Ref sig .tc := ⟨.hbm, 225, rfl⟩
abbrev main_cst_20 : Ref sig .tc := ⟨.hbm, 226, rfl⟩
abbrev main_v184 : Ref sig .tc := ⟨.hbm, 227, rfl⟩
abbrev main_v185 : Ref sig .tc := ⟨.hbm, 228, rfl⟩
abbrev main_v186 : Ref sig .tc := ⟨.hbm, 229, rfl⟩
abbrev main_v187 : Ref sig .tc := ⟨.hbm, 230, rfl⟩
abbrev main_v188 : Ref sig .tc := ⟨.hbm, 231, rfl⟩
abbrev main_v189 : Ref sig .tc := ⟨.hbm, 232, rfl⟩
abbrev main_cst_21 : Ref sig .tc := ⟨.hbm, 233, rfl⟩
abbrev main_v190 : Ref sig .tc := ⟨.hbm, 234, rfl⟩
abbrev main_v191 : Ref sig .tc := ⟨.hbm, 235, rfl⟩
abbrev main_v192 : Ref sig .tc := ⟨.hbm, 236, rfl⟩
abbrev main_v193 : Ref sig .tc := ⟨.hbm, 237, rfl⟩
abbrev main_v194 : Ref sig .tc := ⟨.hbm, 238, rfl⟩
abbrev main_v195 : Ref sig .tc := ⟨.hbm, 239, rfl⟩
abbrev main_v196 : Ref sig .tc := ⟨.hbm, 240, rfl⟩
abbrev main_v197 : Ref sig .tc := ⟨.hbm, 241, rfl⟩
abbrev main_v198 : Ref sig .tc := ⟨.hbm, 242, rfl⟩
abbrev main_v199 : Ref sig .tc := ⟨.hbm, 243, rfl⟩
abbrev main_v200 : Ref sig .tc := ⟨.hbm, 244, rfl⟩
abbrev main_v201 : Ref sig .tc := ⟨.hbm, 245, rfl⟩
abbrev main_v202 : Ref sig .tc := ⟨.hbm, 246, rfl⟩
abbrev main_v203 : Ref sig .tc := ⟨.hbm, 247, rfl⟩
abbrev main_v204 : Ref sig .tc := ⟨.hbm, 248, rfl⟩
abbrev main_v205 : Ref sig .tc := ⟨.hbm, 249, rfl⟩
abbrev main_cst_22 : Ref sig .tc := ⟨.hbm, 250, rfl⟩
abbrev main_v206 : Ref sig .tc := ⟨.hbm, 251, rfl⟩
abbrev main_v207 : Ref sig .tc := ⟨.hbm, 252, rfl⟩
abbrev main_cst_23 : Ref sig .tc := ⟨.hbm, 253, rfl⟩
abbrev main_v208 : Ref sig .tc := ⟨.hbm, 254, rfl⟩
abbrev main_v209 : Ref sig .tc := ⟨.hbm, 255, rfl⟩
abbrev main_v210 : Ref sig .tc := ⟨.hbm, 256, rfl⟩
abbrev main_v211 : Ref sig .tc := ⟨.hbm, 257, rfl⟩
abbrev main_v212 : Ref sig .tc := ⟨.hbm, 258, rfl⟩
abbrev main_cst_24 : Ref sig .tc := ⟨.hbm, 259, rfl⟩
abbrev main_v213 : Ref sig .tc := ⟨.hbm, 260, rfl⟩
abbrev main_v214 : Ref sig .tc := ⟨.hbm, 261, rfl⟩
abbrev main_cst_25 : Ref sig .tc := ⟨.hbm, 262, rfl⟩
abbrev main_v215 : Ref sig .tc := ⟨.hbm, 263, rfl⟩
abbrev main_v216 : Ref sig .tc := ⟨.hbm, 264, rfl⟩
abbrev main_v217 : Ref sig .tc := ⟨.hbm, 265, rfl⟩
abbrev main_v218 : Ref sig .tc := ⟨.hbm, 266, rfl⟩
abbrev main_cst_26 : Ref sig .tc := ⟨.hbm, 267, rfl⟩
abbrev main_v219 : Ref sig .tc := ⟨.hbm, 268, rfl⟩
abbrev main_v220 : Ref sig .tc := ⟨.hbm, 269, rfl⟩
abbrev main_v221 : Ref sig .tc := ⟨.hbm, 270, rfl⟩
abbrev main_v222 : Ref sig .tc := ⟨.hbm, 271, rfl⟩
abbrev main_v223 : Ref sig .tc := ⟨.hbm, 272, rfl⟩
abbrev main_v224 : Ref sig .tc := ⟨.hbm, 273, rfl⟩
abbrev main_v225 : Ref sig .tc := ⟨.hbm, 274, rfl⟩
abbrev main_v226 : Ref sig .tc := ⟨.hbm, 275, rfl⟩
abbrev main_v227 : Ref sig .tc := ⟨.hbm, 276, rfl⟩
abbrev main_v228 : Ref sig .tc := ⟨.hbm, 277, rfl⟩
abbrev main_v229 : Ref sig .tc := ⟨.hbm, 278, rfl⟩
abbrev main_v230 : Ref sig .tc := ⟨.hbm, 279, rfl⟩
abbrev main_v231 : Ref sig .tc := ⟨.hbm, 280, rfl⟩
abbrev main_v232 : Ref sig .tc := ⟨.hbm, 281, rfl⟩
abbrev main_v233 : Ref sig .tc := ⟨.hbm, 282, rfl⟩
abbrev main_v234 : Ref sig .tc := ⟨.hbm, 283, rfl⟩
abbrev main_v235 : Ref sig .tc := ⟨.hbm, 284, rfl⟩
abbrev main_v236 : Ref sig .tc := ⟨.hbm, 285, rfl⟩
abbrev main_v237 : Ref sig .tc := ⟨.hbm, 286, rfl⟩
abbrev main_call1_cst : Ref sig .tc := ⟨.hbm, 287, rfl⟩
abbrev main_call1_v0 : Ref sig .tc := ⟨.hbm, 288, rfl⟩
abbrev main_v238 : Ref sig .tc := ⟨.hbm, 289, rfl⟩
abbrev main_v239 : Ref sig .tc := ⟨.hbm, 290, rfl⟩
abbrev main_v240 : Ref sig .tc := ⟨.hbm, 291, rfl⟩
abbrev main_v241 : Ref sig .tc := ⟨.hbm, 292, rfl⟩
abbrev main_v242 : Ref sig .tc := ⟨.hbm, 293, rfl⟩
abbrev main_v243 : Ref sig .tc := ⟨.hbm, 294, rfl⟩
abbrev main_v244 : Ref sig .tc := ⟨.hbm, 295, rfl⟩
abbrev main_v245 : Ref sig .tc := ⟨.hbm, 296, rfl⟩
abbrev main_v246 : Ref sig .tc := ⟨.hbm, 297, rfl⟩
abbrev main_v247 : Ref sig .tc := ⟨.hbm, 298, rfl⟩
abbrev main_v248 : Ref sig .tc := ⟨.hbm, 299, rfl⟩
abbrev main_v249 : Ref sig .tc := ⟨.hbm, 300, rfl⟩
abbrev main_v250 : Ref sig .tc := ⟨.hbm, 301, rfl⟩
abbrev main_v251 : Ref sig .tc := ⟨.hbm, 302, rfl⟩
abbrev main_v252 : Ref sig .tc := ⟨.hbm, 303, rfl⟩
abbrev main_v253 : Ref sig .tc := ⟨.hbm, 304, rfl⟩
abbrev main_v254 : Ref sig .tc := ⟨.hbm, 305, rfl⟩
abbrev main_cst_27 : Ref sig .tc := ⟨.hbm, 306, rfl⟩
abbrev main_v255 : Ref sig .tc := ⟨.hbm, 307, rfl⟩
abbrev main_v256 : Ref sig .tc := ⟨.hbm, 308, rfl⟩
abbrev main_cst_28 : Ref sig .tc := ⟨.hbm, 309, rfl⟩
abbrev main_v257 : Ref sig .tc := ⟨.hbm, 310, rfl⟩
abbrev main_v258 : Ref sig .tc := ⟨.hbm, 311, rfl⟩
abbrev main_v259 : Ref sig .tc := ⟨.hbm, 312, rfl⟩
abbrev main_v260 : Ref sig .tc := ⟨.hbm, 313, rfl⟩
abbrev main_v261 : Ref sig .tc := ⟨.hbm, 314, rfl⟩
abbrev main_cst_29 : Ref sig .tc := ⟨.hbm, 315, rfl⟩
abbrev main_v262 : Ref sig .tc := ⟨.hbm, 316, rfl⟩
abbrev main_cst_30 : Ref sig .tc := ⟨.hbm, 317, rfl⟩
abbrev main_v263 : Ref sig .tc := ⟨.hbm, 318, rfl⟩
abbrev main_v264 : Ref sig .tc := ⟨.hbm, 319, rfl⟩
abbrev main_v265 : Ref sig .tc := ⟨.hbm, 320, rfl⟩
abbrev main_v266 : Ref sig .tc := ⟨.hbm, 321, rfl⟩
abbrev main_v267 : Ref sig .tc := ⟨.hbm, 322, rfl⟩
abbrev main_v268 : Ref sig .tc := ⟨.hbm, 323, rfl⟩
abbrev main_cst_31 : Ref sig .tc := ⟨.hbm, 324, rfl⟩
abbrev main_v269 : Ref sig .tc := ⟨.hbm, 325, rfl⟩
abbrev main_v270 : Ref sig .tc := ⟨.hbm, 326, rfl⟩
abbrev main_v271 : Ref sig .tc := ⟨.hbm, 327, rfl⟩
abbrev main_v272 : Ref sig .tc := ⟨.hbm, 328, rfl⟩
abbrev main_v273 : Ref sig .tc := ⟨.hbm, 329, rfl⟩
abbrev main_call2_v0 : Ref sig .tc := ⟨.hbm, 330, rfl⟩
abbrev main_call2_v1_0 : Ref sig .tc := ⟨.hbm, 331, rfl⟩
abbrev main_v274 : Ref sig .tc := ⟨.hbm, 332, rfl⟩
abbrev main_v275 : Ref sig .tc := ⟨.hbm, 333, rfl⟩
abbrev main_cst_32 : Ref sig .tc := ⟨.hbm, 334, rfl⟩
abbrev main_v276 : Ref sig .tc := ⟨.hbm, 335, rfl⟩
abbrev main_v277 : Ref sig .tc := ⟨.hbm, 336, rfl⟩
abbrev main_v278 : Ref sig .tc := ⟨.hbm, 337, rfl⟩
abbrev main_c : Ref sig .tc := ⟨.hbm, 338, rfl⟩
abbrev main_v279 : Ref sig .tc := ⟨.hbm, 339, rfl⟩
abbrev main_c_33 : Ref sig .tc := ⟨.hbm, 340, rfl⟩
abbrev main_v280 : Ref sig .tc := ⟨.hbm, 341, rfl⟩
abbrev main_v281 : Ref sig .tc := ⟨.hbm, 342, rfl⟩
abbrev main_c_34 : Ref sig .tc := ⟨.hbm, 343, rfl⟩
abbrev main_c_35 : Ref sig .tc := ⟨.hbm, 344, rfl⟩
abbrev main_call3_v0 : Ref sig .tc := ⟨.hbm, 345, rfl⟩
abbrev main_call3_v1 : Ref sig .tc := ⟨.hbm, 346, rfl⟩
abbrev main_call3_v2 : Ref sig .tc := ⟨.hbm, 347, rfl⟩
abbrev main_call3_v3 : Ref sig .tc := ⟨.hbm, 348, rfl⟩
abbrev main_call3_v4 : Ref sig .tc := ⟨.hbm, 349, rfl⟩
abbrev main_v282 : Ref sig .tc := ⟨.hbm, 350, rfl⟩
abbrev main_v283 : Ref sig .tc := ⟨.hbm, 351, rfl⟩
abbrev main_v284 : Ref sig .tc := ⟨.hbm, 352, rfl⟩
abbrev main_v285 : Ref sig .tc := ⟨.hbm, 353, rfl⟩
abbrev main_v286 : Ref sig .tc := ⟨.hbm, 354, rfl⟩
abbrev main_v287 : Ref sig .tc := ⟨.hbm, 355, rfl⟩
abbrev main_v288 : Ref sig .tc := ⟨.hbm, 356, rfl⟩
abbrev main_c_36 : Ref sig .tc := ⟨.hbm, 357, rfl⟩
abbrev main_v289 : Ref sig .tc := ⟨.hbm, 358, rfl⟩
abbrev main_v290 : Ref sig .tc := ⟨.hbm, 359, rfl⟩
abbrev main_call4_v0 : Ref sig .tc := ⟨.hbm, 360, rfl⟩
abbrev main_v291 : Ref sig .tc := ⟨.hbm, 361, rfl⟩
abbrev main_call5_v0 : Ref sig .tc := ⟨.hbm, 362, rfl⟩
abbrev main_call5_v1_0 : Ref sig .tc := ⟨.hbm, 363, rfl⟩
abbrev main_v292 : Ref sig .tc := ⟨.hbm, 364, rfl⟩
abbrev main_call6_c : Ref sig .tc := ⟨.hbm, 365, rfl⟩
abbrev main_call6_v0 : Ref sig .tc := ⟨.hbm, 366, rfl⟩
abbrev main_call6_v1 : Ref sig .tc := ⟨.hbm, 367, rfl⟩
abbrev main_call6_c_0 : Ref sig .tc := ⟨.hbm, 368, rfl⟩
abbrev main_call6_v2 : Ref sig .tc := ⟨.hbm, 369, rfl⟩
abbrev main_call6_v3 : Ref sig .tc := ⟨.hbm, 370, rfl⟩
abbrev main_call6_v4 : Ref sig .tc := ⟨.hbm, 371, rfl⟩
abbrev main_call6_v5 : Ref sig .tc := ⟨.hbm, 372, rfl⟩
abbrev main_call6_c_1 : Ref sig .tc := ⟨.hbm, 373, rfl⟩
abbrev main_call6_c_2 : Ref sig .tc := ⟨.hbm, 374, rfl⟩
abbrev main_call6_v6 : Ref sig .tc := ⟨.hbm, 375, rfl⟩
abbrev main_call6_v7 : Ref sig .tc := ⟨.hbm, 376, rfl⟩
abbrev main_call6_v8 : Ref sig .tc := ⟨.hbm, 377, rfl⟩
abbrev main_call6_v9 : Ref sig .tc := ⟨.hbm, 378, rfl⟩
abbrev main_call6_v10 : Ref sig .tc := ⟨.hbm, 379, rfl⟩
abbrev main_call6_v11 : Ref sig .tc := ⟨.hbm, 380, rfl⟩
abbrev main_call6_c_3 : Ref sig .tc := ⟨.hbm, 381, rfl⟩
abbrev main_call6_v12 : Ref sig .tc := ⟨.hbm, 382, rfl⟩
abbrev main_call6_v13 : Ref sig .tc := ⟨.hbm, 383, rfl⟩
abbrev main_call6_c_4 : Ref sig .tc := ⟨.hbm, 384, rfl⟩
abbrev main_call6_v14 : Ref sig .tc := ⟨.hbm, 385, rfl⟩
abbrev main_v293 : Ref sig .tc := ⟨.hbm, 386, rfl⟩
abbrev main_v294 : Ref sig .tc := ⟨.hbm, 387, rfl⟩
abbrev main_call7_c : Ref sig .tc := ⟨.hbm, 388, rfl⟩
abbrev main_call7_v0 : Ref sig .tc := ⟨.hbm, 389, rfl⟩
abbrev main_call7_v1 : Ref sig .tc := ⟨.hbm, 390, rfl⟩
abbrev main_call7_c_0 : Ref sig .tc := ⟨.hbm, 391, rfl⟩
abbrev main_call7_v2 : Ref sig .tc := ⟨.hbm, 392, rfl⟩
abbrev main_call7_v3 : Ref sig .tc := ⟨.hbm, 393, rfl⟩
abbrev main_call7_v4 : Ref sig .tc := ⟨.hbm, 394, rfl⟩
abbrev main_call7_c_1 : Ref sig .tc := ⟨.hbm, 395, rfl⟩
abbrev main_call7_c_2 : Ref sig .tc := ⟨.hbm, 396, rfl⟩
abbrev main_call7_v5 : Ref sig .tc := ⟨.hbm, 397, rfl⟩
abbrev main_call7_v6 : Ref sig .tc := ⟨.hbm, 398, rfl⟩
abbrev main_call7_v7 : Ref sig .tc := ⟨.hbm, 399, rfl⟩
abbrev main_call7_v8 : Ref sig .tc := ⟨.hbm, 400, rfl⟩
abbrev main_call7_v9 : Ref sig .tc := ⟨.hbm, 401, rfl⟩
abbrev main_call7_v10 : Ref sig .tc := ⟨.hbm, 402, rfl⟩
abbrev main_call7_c_3 : Ref sig .tc := ⟨.hbm, 403, rfl⟩
abbrev main_call7_v11 : Ref sig .tc := ⟨.hbm, 404, rfl⟩
abbrev main_call7_v12 : Ref sig .tc := ⟨.hbm, 405, rfl⟩
abbrev main_call7_v13 : Ref sig .tc := ⟨.hbm, 406, rfl⟩
abbrev main_call7_cst : Ref sig .tc := ⟨.hbm, 407, rfl⟩
abbrev main_call7_v14 : Ref sig .tc := ⟨.hbm, 408, rfl⟩
abbrev main_v295 : Ref sig .tc := ⟨.hbm, 409, rfl⟩
abbrev main_v296 : Ref sig .tc := ⟨.hbm, 410, rfl⟩
abbrev main_cst_37 : Ref sig .tc := ⟨.hbm, 411, rfl⟩
abbrev main_v297 : Ref sig .tc := ⟨.hbm, 412, rfl⟩
abbrev main_v298 : Ref sig .tc := ⟨.hbm, 413, rfl⟩
abbrev main_v299 : Ref sig .tc := ⟨.hbm, 414, rfl⟩
abbrev main_cst_38 : Ref sig .tc := ⟨.hbm, 415, rfl⟩
abbrev main_v300 : Ref sig .tc := ⟨.hbm, 416, rfl⟩
abbrev main_v301 : Ref sig .tc := ⟨.hbm, 417, rfl⟩
abbrev main_v302 : Ref sig .tc := ⟨.hbm, 418, rfl⟩
abbrev main_v303 : Ref sig .tc := ⟨.hbm, 419, rfl⟩

abbrev nD : Nat := 1
abbrev τ : Topo := Topo.v7x

variable {F : FTy → Type} [FloatOps F]
-- ==== Proof.HostSim.lean ====
/-
Two lines of host operations, in two programs, that do the same thing buffer by buffer.

Both programs number the buffers of their host values in the order in which the operations write them. Two lines
run in step when each pair of operations applies the same function to buffers of the same numbers and writes the
next number. Contents that agree below the first number then agree below the last one.
-/
module

public import Idealize.ShloMosaic.Lib.StableHlo.Run

@[expose] public section

namespace Cert.HostSim

open Idealize.ShloMosaic Idealize.ShloMosaic.TcCoe Idealize.ShloMosaic.StableHlo

variable {τ τ' : Topo} {sig sig' : RefSig} {Val : EltTy → Type}

/-- `r` is the host buffer number `n`. -/
structure Num {sig : RefSig} (r : Ref sig .tc) (n : Nat) : Prop where
  space : r.space = .hbm
  idx : r.idx.val = n

/-- A host buffer is determined by its number. -/
theorem Num.unique {sig : RefSig} {r s : Ref sig .tc} {n : Nat} (hr : Num r n) (hs : Num s n) : r = s := by
  obtain ⟨sp, i, hn⟩ := r
  obtain ⟨sp', i', hn'⟩ := s
  obtain ⟨h1, h2⟩ := hr
  obtain ⟨h3, h4⟩ := hs
  dsimp only at h1 h2 h3 h4
  subst h1
  subst h3
  have : i = i' := Fin.ext (h2.trans h4.symm)
  subst this
  rfl

/-- The two contents agree at every buffer numbered below `n`. -/
def Agree (n : Nat) (V : Valuation τ sig Val) (V' : Valuation τ' sig' Val) : Prop :=
  ∀ (r : Ref sig .tc) (r' : Ref sig' .tc) (k : Nat), k < n → Num r k → Num r' k →
    HEq (V (Proc.devRef .tc r)) (V' (Proc.devRef .tc r'))

/-- One operation on each side, each writing buffer `n` alone and the same contents, extends the agreement by `n`. -/
theorem Agree.step {n : Nat} {V : Valuation τ sig Val} {V' : Valuation τ' sig' Val} (h : Agree n V V')
    (op : HloOp τ sig Val) (op' : HloOp τ' sig' Val) (y : Ref sig .tc) (y' : Ref sig' .tc)
    (hy : Num y n) (hy' : Num y' n) (hw : op.writes = {Proc.devRef (τ := τ) .tc y})
    (hw' : op'.writes = {Proc.devRef (τ := τ') .tc y'})
    (he : HEq (op.result V (Proc.devRef .tc y)) (op'.result V' (Proc.devRef .tc y'))) :
    Agree (n + 1) (op.result V) (op'.result V') := by
  intro r r' k hk hr hr'
  rcases Nat.lt_succ_iff_lt_or_eq.mp hk with hlt | rfl
  · have h1 : r ≠ y := fun e => absurd (hr.idx.symm.trans (e ▸ hy.idx)) (Nat.ne_of_lt hlt)
    have h2 : r' ≠ y' := fun e => absurd (hr'.idx.symm.trans (e ▸ hy'.idx)) (Nat.ne_of_lt hlt)
    rw [result_of_writes_ne op V y r hw h1, result_of_writes_ne op' V' y' r' hw' h2]
    exact h r r' k hlt hr hr'
  · cases hr.unique hy
    cases hr'.unique hy'
    exact he

/-- One operation of the second line alone, writing a buffer numbered `n` or above, keeps the agreement. -/
theorem Agree.skip {n : Nat} {V : Valuation τ sig Val} {V' : Valuation τ' sig' Val} (h : Agree n V V')
    (op' : HloOp τ' sig' Val) (y' : Ref sig' .tc) (hy' : n ≤ y'.idx.val)
    (hw' : op'.writes = {Proc.devRef (τ := τ') .tc y'}) : Agree n V (op'.result V') := by
  intro r r' k hk hr hr'
  have h2 : r' ≠ y' := fun e => absurd (hr'.idx.symm.trans (e ▸ rfl)) (Nat.ne_of_lt (Nat.lt_of_lt_of_le hk hy'))
  rw [result_of_writes_ne op' V' y' r' hw' h2]
  exact h r r' k hk hr hr'

theorem heq_app {A A' : Type} {B B' : Type} {f : A → B} {f' : A' → B'} {a : A} {a' : A'}
    (hA : A = A') (hB : B = B') (hf : HEq f f') (ha : HEq a a') : HEq (f a) (f' a') := by
  subst hA; subst hB; cases hf; cases ha; rfl

theorem heq_app₂ {A A' B B' C C' : Type} {f : A → B → C} {f' : A' → B' → C'} {a : A} {a' : A'} {b : B} {b' : B'}
    (hA : A = A') (hB : B = B') (hC : C = C') (hf : HEq f f') (ha : HEq a a') (hb : HEq b b') :
    HEq (f a b) (f' a' b') := by
  subst hA; subst hB; subst hC; cases hf; cases ha; cases hb; rfl

/-- The reading of a reshaped buffer depends on the two buffer types only. -/
theorem heq_reshape {T T' U U' : BufTy} (hT : T = T') (hU : U = U') (he : T.elt = U.elt) (he' : T'.elt = U'.elt)
    (hn : T.shape.ShapeCasts U.shape) (hn' : T'.shape.ShapeCasts U'.shape) {v : T.Contents Val} {v' : T'.Contents Val}
    (hv : HEq v v') :
    HEq (fun i => he ▸ shapeCast U.shape v hn i : U.Contents Val) (fun i => he' ▸ shapeCast U'.shape v' hn' i : U'.Contents Val) := by
  subst hT; subst hU; cases hv; rfl

/-- Two lines of operations in step: every pair of operations writes the next buffer number, from `n` up to `N`, by the
    same function of buffers of the same smaller numbers. The second line may go on, writing numbers `N` and above. -/
inductive InStep : Nat → Nat → List (HloOp τ sig Val) → List (HloOp τ' sig' Val) → Prop
  | nil (N : Nat) : InStep N N [] []
  | skip {N : Nat} {op' : HloOp τ' sig' Val} {ops' : List (HloOp τ' sig' Val)} (y' : Ref sig' .tc)
      (hw' : op'.writes = {Proc.devRef (τ := τ') .tc y'}) (hy' : N ≤ y'.idx.val)
      (next : InStep N N [] ops') : InStep N N [] (op' :: ops')
  | nullary {n N : Nat} {ops : List (HloOp τ sig Val)} {ops' : List (HloOp τ' sig' Val)} {y : Ref sig .tc} {y' : Ref sig' .tc}
      {v : y.ty.Contents Val} {v' : y'.ty.Contents Val} {hd hd'} (hy : Num y n) (hy' : Num y' n) (hf : HEq v v')
      (next : InStep (n + 1) N ops ops') :
      InStep n N (StableHlo.nullary y v hd :: ops) (StableHlo.nullary y' v' hd' :: ops')
  | unary {n N : Nat} {ops : List (HloOp τ sig Val)} {ops' : List (HloOp τ' sig' Val)} {x y : Ref sig .tc} {x' y' : Ref sig' .tc}
      {f : x.ty.Contents Val → y.ty.Contents Val} {f' : x'.ty.Contents Val → y'.ty.Contents Val} {hc hc' hd hd'} {k : Nat}
      (hy : Num y n) (hy' : Num y' n) (hx : Num x k) (hx' : Num x' k) (hk : k < n) (hX : x.ty = x'.ty) (hY : y.ty = y'.ty)
      (hf : HEq f f') (next : InStep (n + 1) N ops ops') :
      InStep n N (StableHlo.unary x y f hc hd :: ops) (StableHlo.unary x' y' f' hc' hd' :: ops')
  | reshape {n N : Nat} {ops : List (HloOp τ sig Val)} {ops' : List (HloOp τ' sig' Val)} {x y : Ref sig .tc} {x' y' : Ref sig' .tc}
      {he he' hn hn' hc hc' hd hd'} {k : Nat}
      (hy : Num y n) (hy' : Num y' n) (hx : Num x k) (hx' : Num x' k) (hk : k < n) (hX : x.ty = x'.ty) (hY : y.ty = y'.ty)
      (next : InStep (n + 1) N ops ops') :
      InStep n N (StableHlo.reshape x y he hn hc hd :: ops) (StableHlo.reshape x' y' he' hn' hc' hd' :: ops')
  | binary {n N : Nat} {ops : List (HloOp τ sig Val)} {ops' : List (HloOp τ' sig' Val)} {a b y : Ref sig .tc}
      {a' b' y' : Ref sig' .tc} {f : a.ty.Contents Val → b.ty.Contents Val → y.ty.Contents Val}
      {f' : a'.ty.Contents Val → b'.ty.Contents Val → y'.ty.Contents Val} {hc hc' hb hb' hd hd'} {k l : Nat}
      (hy : Num y n) (hy' : Num y' n) (ha : Num a k) (ha' : Num a' k) (hk : k < n) (hl : Num b l) (hl' : Num b' l) (hln : l < n)
      (hA : a.ty = a'.ty) (hB : b.ty = b'.ty) (hY : y.ty = y'.ty)
      (hf : HEq f f') (next : InStep (n + 1) N ops ops') :
      InStep n N (StableHlo.binary a b y f hc hb hd :: ops) (StableHlo.binary a' b' y' f' hc' hb' hd' :: ops')

/-- Lines in step one after the other are in step. -/
theorem InStep.append {n M N : Nat} {ops₁ ops₂ : List (HloOp τ sig Val)} {ops₁' ops₂' : List (HloOp τ' sig' Val)}
    (h₁ : InStep n M ops₁ ops₁') (h₂ : InStep M N ops₂ ops₂') (hs : ops₁.length = ops₁'.length) :
    InStep n N (ops₁ ++ ops₂) (ops₁' ++ ops₂') := by
  induction h₁ with
  | nil N => exact h₂
  | skip y' hw' hy' _ _ => exact absurd hs (by simp)
  | nullary hy hy' hf _ ih => exact .nullary hy hy' hf (ih h₂ (by simpa using hs))
  | unary hy hy' hx hx' hk hX hY hf _ ih => exact .unary hy hy' hx hx' hk hX hY hf (ih h₂ (by simpa using hs))
  | reshape hy hy' hx hx' hk hX hY _ ih => exact .reshape hy hy' hx hx' hk hX hY (ih h₂ (by simpa using hs))
  | binary hy hy' ha ha' hk hl hl' hln hA hB hY hf _ ih =>
    exact .binary hy hy' ha ha' hk hl hl' hln hA hB hY hf (ih h₂ (by simpa using hs))

/-- Lines in step extend an agreement below the first number to one below the last. -/
theorem InStep.agree {n N : Nat} {ops : List (HloOp τ sig Val)} {ops' : List (HloOp τ' sig' Val)} (h : InStep n N ops ops') :
    ∀ {V : Valuation τ sig Val} {V' : Valuation τ' sig' Val}, Agree n V V' → Agree N (after ops V) (after ops' V') := by
  induction h with
  | nil N => exact fun h => h
  | skip y' hw' hy' _ ih => exact fun h => ih (h.skip _ y' hy' hw')
  | @nullary n N ops ops' y y' v v' hd hd' hy hy' hf _ ih =>
    intro V V' h
    refine ih (h.step _ _ y y' hy hy' rfl rfl ?_)
    rw [nullary_result, nullary_result]
    exact hf
  | @unary n N ops ops' x y x' y' f f' hc hc' hd hd' k hy hy' hx hx' hk hX hY hf _ ih =>
    intro V V' h
    refine ih (h.step _ _ y y' hy hy' rfl rfl ?_)
    rw [unary_result, unary_result]
    exact heq_app (congrArg (BufTy.Contents Val) hX) (congrArg (BufTy.Contents Val) hY) hf (h x x' k hk hx hx')
  | @reshape n N ops ops' x y x' y' he he' hn hn' hc hc' hd hd' k hy hy' hx hx' hk hX hY _ ih =>
    intro V V' h
    refine ih (h.step _ _ y y' hy hy' rfl rfl ?_)
    rw [reshape_result, reshape_result]
    exact heq_reshape hX hY he he' hn hn' (h x x' k hk hx hx')
  | @binary n N ops ops' a b y a' b' y' f f' hc hc' hb hb' hd hd' k l hy hy' ha ha' hk hl hl' hln hA hB hY hf _ ih =>
    intro V V' h
    refine ih (h.step _ _ y y' hy hy' rfl rfl ?_)
    rw [binary_result, binary_result]
    exact heq_app₂ (congrArg (BufTy.Contents Val) hA) (congrArg (BufTy.Contents Val) hB) (congrArg (BufTy.Contents Val) hY)
      hf (h a a' k hk ha ha') (h b b' l hln hl hl')

end Cert.HostSim

end
-- ==== Proof.PrefixOps.lean ====
/-
The two lines of host operations that compute the latent array: the kernel's, all that run before its region, and the
reference's first ones, which reach a little past the latent array.
-/
module

public import proofs.«01_k».proof.Proof.HostSim
public import proofs.«01_k».proof.Proof.Gen.KernelIdeal.Frame
public import proofs.«01_k».proof.Proof.Gen.ReferenceIdeal.Run

@[expose] public section

noncomputable section

namespace Cert.Prefix

open Idealize.ShloMosaic Idealize.ShloMosaic.TcCoe Idealize.ShloMosaic.StableHlo Cert.HostSim

variable {F : FTy → Type} [FloatOps F]

/-- The kernel's host operations before the region. -/
def kernelOps : List (HloOp KernelIdeal.τ KernelIdeal.sig (Elt F)) :=
  List.flatten [KernelIdeal.Gen.hostOps0, KernelIdeal.Gen.hostOps0_1, KernelIdeal.Gen.hostOps0_2,
    KernelIdeal.Gen.hostOps0_3, KernelIdeal.Gen.hostOps0_4]

/-- The reference's host operations, up to the ones that follow the latent array. -/
def refOps : List (HloOp ReferenceIdeal.τ ReferenceIdeal.sig (Elt F)) :=
  ReferenceIdeal.Value.ops_part0 ++ (ReferenceIdeal.Value.ops_part1 ++ (ReferenceIdeal.Value.ops_part2 ++
    (ReferenceIdeal.Value.ops_part3 ++ (ReferenceIdeal.Value.ops_part4_0 ++ ReferenceIdeal.Value.ops_part4_1))))

end Cert.Prefix

end
-- ==== Proof.PrefixA.lean ====
/-
The two lines of host operations in step, cut into stretches of at most sixty operations.
-/
module

public import proofs.«01_k».proof.Proof.PrefixOps

@[expose] public section

set_option Elab.async false

noncomputable section

namespace Cert.Prefix

open Idealize.ShloMosaic Idealize.ShloMosaic.TcCoe Idealize.ShloMosaic.StableHlo Cert.HostSim

variable {F : FTy → Type} [FloatOps F]

set_option maxHeartbeats 8000000 in
set_option maxRecDepth 20000 in
/-- In step from host buffer 19 up to 79. -/
theorem inStep0 :
    InStep (Val := Elt F) 19 79 ((kernelOps.drop 0).take 60) ((refOps.drop 0).take 60) := by
  simp only [kernelOps, refOps, List.flatten_cons, List.flatten_nil, List.append_nil, List.cons_append, List.nil_append,
    ReferenceIdeal.Value.ops_part2, List.drop_succ_cons, List.drop_zero, List.take_succ_cons, List.take_zero]
  repeat first
    | refine .unary ⟨rfl, rfl⟩ ⟨rfl, rfl⟩ ⟨rfl, rfl⟩ ⟨rfl, rfl⟩ (by decide) rfl rfl HEq.rfl ?_
    | refine .binary ⟨rfl, rfl⟩ ⟨rfl, rfl⟩ ⟨rfl, rfl⟩ ⟨rfl, rfl⟩ (by decide) ⟨rfl, rfl⟩ ⟨rfl, rfl⟩ (by decide) rfl rfl rfl HEq.rfl ?_
    | refine .reshape ⟨rfl, rfl⟩ ⟨rfl, rfl⟩ ⟨rfl, rfl⟩ ⟨rfl, rfl⟩ (by decide) rfl rfl ?_
    | refine .nullary ⟨rfl, rfl⟩ ⟨rfl, rfl⟩ HEq.rfl ?_
    | refine .skip _ rfl (by decide) ?_
  exact .nil _

set_option maxHeartbeats 8000000 in
set_option maxRecDepth 20000 in
/-- In step from host buffer 79 up to 129. -/
theorem inStep1 :
    InStep (Val := Elt F) 79 129 ((kernelOps.drop 60).take 50) ((refOps.drop 60).take 50) := by
  simp only [kernelOps, refOps, List.flatten_cons, List.flatten_nil, List.append_nil, List.cons_append, List.nil_append,
    ReferenceIdeal.Value.ops_part2, List.drop_succ_cons, List.drop_zero, List.take_succ_cons, List.take_zero]
  repeat first
    | refine .unary ⟨rfl, rfl⟩ ⟨rfl, rfl⟩ ⟨rfl, rfl⟩ ⟨rfl, rfl⟩ (by decide) rfl rfl HEq.rfl ?_
    | refine .binary ⟨rfl, rfl⟩ ⟨rfl, rfl⟩ ⟨rfl, rfl⟩ ⟨rfl, rfl⟩ (by decide) ⟨rfl, rfl⟩ ⟨rfl, rfl⟩ (by decide) rfl rfl rfl HEq.rfl ?_
    | refine .reshape ⟨rfl, rfl⟩ ⟨rfl, rfl⟩ ⟨rfl, rfl⟩ ⟨rfl, rfl⟩ (by decide) rfl rfl ?_
    | refine .nullary ⟨rfl, rfl⟩ ⟨rfl, rfl⟩ HEq.rfl ?_
    | refine .skip _ rfl (by decide) ?_
  exact .nil _

set_option maxHeartbeats 8000000 in
set_option maxRecDepth 20000 in
/-- In step from host buffer 129 up to 169. -/
theorem inStep2 :
    InStep (Val := Elt F) 129 169 ((kernelOps.drop 110).take 40) ((refOps.drop 110).take 40) := by
  simp only [kernelOps, refOps, List.flatten_cons, List.flatten_nil, List.append_nil, List.cons_append, List.nil_append,
    ReferenceIdeal.Value.ops_part2, List.drop_succ_cons, List.drop_zero, List.take_succ_cons, List.take_zero]
  repeat first
    | refine .unary ⟨rfl, rfl⟩ ⟨rfl, rfl⟩ ⟨rfl, rfl⟩ ⟨rfl, rfl⟩ (by decide) rfl rfl HEq.rfl ?_
    | refine .binary ⟨rfl, rfl⟩ ⟨rfl, rfl⟩ ⟨rfl, rfl⟩ ⟨rfl, rfl⟩ (by decide) ⟨rfl, rfl⟩ ⟨rfl, rfl⟩ (by decide) rfl rfl rfl HEq.rfl ?_
    | refine .reshape ⟨rfl, rfl⟩ ⟨rfl, rfl⟩ ⟨rfl, rfl⟩ ⟨rfl, rfl⟩ (by decide) rfl rfl ?_
    | refine .nullary ⟨rfl, rfl⟩ ⟨rfl, rfl⟩ HEq.rfl ?_
    | refine .skip _ rfl (by decide) ?_
  exact .nil _

end Cert.Prefix

end
-- ==== Proof.PrefixB.lean ====
/-
The two lines of host operations in step, cut into stretches of at most sixty operations.
-/
module

public import proofs.«01_k».proof.Proof.PrefixOps

@[expose] public section

set_option Elab.async false

noncomputable section

namespace Cert.Prefix

open Idealize.ShloMosaic Idealize.ShloMosaic.TcCoe Idealize.ShloMosaic.StableHlo Cert.HostSim

variable {F : FTy → Type} [FloatOps F]

set_option maxHeartbeats 8000000 in
set_option maxRecDepth 20000 in
/-- In step from host buffer 169 up to 209. -/
theorem inStep3 :
    InStep (Val := Elt F) 169 209 ((kernelOps.drop 150).take 40) ((refOps.drop 150).take 40) := by
  simp only [kernelOps, refOps, List.flatten_cons, List.flatten_nil, List.append_nil, List.cons_append, List.nil_append,
    ReferenceIdeal.Value.ops_part2, List.drop_succ_cons, List.drop_zero, List.take_succ_cons, List.take_zero]
  repeat first
    | refine .unary ⟨rfl, rfl⟩ ⟨rfl, rfl⟩ ⟨rfl, rfl⟩ ⟨rfl, rfl⟩ (by decide) rfl rfl HEq.rfl ?_
    | refine .binary ⟨rfl, rfl⟩ ⟨rfl, rfl⟩ ⟨rfl, rfl⟩ ⟨rfl, rfl⟩ (by decide) ⟨rfl, rfl⟩ ⟨rfl, rfl⟩ (by decide) rfl rfl rfl HEq.rfl ?_
    | refine .reshape ⟨rfl, rfl⟩ ⟨rfl, rfl⟩ ⟨rfl, rfl⟩ ⟨rfl, rfl⟩ (by decide) rfl rfl ?_
    | refine .nullary ⟨rfl, rfl⟩ ⟨rfl, rfl⟩ HEq.rfl ?_
    | refine .skip _ rfl (by decide) ?_
  exact .nil _

set_option maxHeartbeats 8000000 in
set_option maxRecDepth 20000 in
/-- In step from host buffer 209 up to 244. -/
theorem inStep4 :
    InStep (Val := Elt F) 209 244 ((kernelOps.drop 190).take 35) ((refOps.drop 190).take 35) := by
  simp only [kernelOps, refOps, List.flatten_cons, List.flatten_nil, List.append_nil, List.cons_append, List.nil_append,
    ReferenceIdeal.Value.ops_part2, List.drop_succ_cons, List.drop_zero, List.take_succ_cons, List.take_zero]
  repeat first
    | refine .unary ⟨rfl, rfl⟩ ⟨rfl, rfl⟩ ⟨rfl, rfl⟩ ⟨rfl, rfl⟩ (by decide) rfl rfl HEq.rfl ?_
    | refine .binary ⟨rfl, rfl⟩ ⟨rfl, rfl⟩ ⟨rfl, rfl⟩ ⟨rfl, rfl⟩ (by decide) ⟨rfl, rfl⟩ ⟨rfl, rfl⟩ (by decide) rfl rfl rfl HEq.rfl ?_
    | refine .reshape ⟨rfl, rfl⟩ ⟨rfl, rfl⟩ ⟨rfl, rfl⟩ ⟨rfl, rfl⟩ (by decide) rfl rfl ?_
    | refine .nullary ⟨rfl, rfl⟩ ⟨rfl, rfl⟩ HEq.rfl ?_
    | refine .skip _ rfl (by decide) ?_
  exact .nil _

end Cert.Prefix

end
-- ==== Proof.PrefixC.lean ====
/-
The two lines of host operations in step, cut into stretches of at most sixty operations.
-/
module

public import proofs.«01_k».proof.Proof.PrefixOps

@[expose] public section

set_option Elab.async false

noncomputable section

namespace Cert.Prefix

open Idealize.ShloMosaic Idealize.ShloMosaic.TcCoe Idealize.ShloMosaic.StableHlo Cert.HostSim

variable {F : FTy → Type} [FloatOps F]

set_option maxHeartbeats 8000000 in
set_option maxRecDepth 20000 in
/-- In step from host buffer 244 up to 279. -/
theorem inStep5 :
    InStep (Val := Elt F) 244 279 ((kernelOps.drop 225).take 35) ((refOps.drop 225).take 35) := by
  simp only [kernelOps, refOps, List.flatten_cons, List.flatten_nil, List.append_nil, List.cons_append, List.nil_append,
    ReferenceIdeal.Value.ops_part2, List.drop_succ_cons, List.drop_zero, List.take_succ_cons, List.take_zero]
  repeat first
    | refine .unary ⟨rfl, rfl⟩ ⟨rfl, rfl⟩ ⟨rfl, rfl⟩ ⟨rfl, rfl⟩ (by decide) rfl rfl HEq.rfl ?_
    | refine .binary ⟨rfl, rfl⟩ ⟨rfl, rfl⟩ ⟨rfl, rfl⟩ ⟨rfl, rfl⟩ (by decide) ⟨rfl, rfl⟩ ⟨rfl, rfl⟩ (by decide) rfl rfl rfl HEq.rfl ?_
    | refine .reshape ⟨rfl, rfl⟩ ⟨rfl, rfl⟩ ⟨rfl, rfl⟩ ⟨rfl, rfl⟩ (by decide) rfl rfl ?_
    | refine .nullary ⟨rfl, rfl⟩ ⟨rfl, rfl⟩ HEq.rfl ?_
    | refine .skip _ rfl (by decide) ?_
  exact .nil _

set_option maxHeartbeats 8000000 in
set_option maxRecDepth 20000 in
/-- In step from host buffer 279 to the end of the first line. -/
theorem inStep6 :
    InStep (Val := Elt F) 279 312 (kernelOps.drop 260) (refOps.drop 260) := by
  simp only [kernelOps, refOps, List.flatten_cons, List.flatten_nil, List.append_nil, List.cons_append, List.nil_append,
    ReferenceIdeal.Value.ops_part2, List.drop_succ_cons, List.drop_zero, List.take_succ_cons, List.take_zero]
  repeat first
    | refine .unary ⟨rfl, rfl⟩ ⟨rfl, rfl⟩ ⟨rfl, rfl⟩ ⟨rfl, rfl⟩ (by decide) rfl rfl HEq.rfl ?_
    | refine .binary ⟨rfl, rfl⟩ ⟨rfl, rfl⟩ ⟨rfl, rfl⟩ ⟨rfl, rfl⟩ (by decide) ⟨rfl, rfl⟩ ⟨rfl, rfl⟩ (by decide) rfl rfl rfl HEq.rfl ?_
    | refine .reshape ⟨rfl, rfl⟩ ⟨rfl, rfl⟩ ⟨rfl, rfl⟩ ⟨rfl, rfl⟩ (by decide) rfl rfl ?_
    | refine .nullary ⟨rfl, rfl⟩ ⟨rfl, rfl⟩ HEq.rfl ?_
    | refine .skip _ rfl (by decide) ?_
  exact .nil _

end Cert.Prefix

end
-- ==== Proof.Prefix.lean ====
/-
The latent array before the region.

Up to the latent array the kernel's program and the reference run the same host operations on host buffers of the same
numbers. So the array the region reads holds what the reference computes for it.
-/
module

public import proofs.«01_k».proof.Proof.PrefixA
public import proofs.«01_k».proof.Proof.PrefixB
public import proofs.«01_k».proof.Proof.PrefixC
public import proofs.«01_k».proof.Proof.Gen.ReferenceIdeal.Read

@[expose] public section

noncomputable section

namespace Cert.Prefix

open Idealize.ShloMosaic Idealize.ShloMosaic.TcCoe Idealize.ShloMosaic.StableHlo Cert.HostSim

variable {F : FTy → Type} [FloatOps F]

theorem kernelOps_length : (kernelOps (F := F)).length = 293 := rfl

theorem refOps_length : 293 ≤ (refOps (F := F)).length := by
  simp only [refOps, List.length_append]
  exact Nat.le_of_ble_eq_true rfl

/-- A stretch in step before a rest in step. -/
theorem cut {n M N : Nat} (a k b : Nat) (hb : a + k = b) (hk : b ≤ 293)
    (h₁ : InStep (Val := Elt F) n M ((kernelOps.drop a).take k) ((refOps.drop a).take k))
    (h₂ : InStep (Val := Elt F) M N (kernelOps.drop b) (refOps.drop b)) :
    InStep (Val := Elt F) n N (kernelOps.drop a) (refOps.drop a) := by
  subst hb
  have hr := refOps_length (F := F)
  have h := h₁.append h₂ (by simp only [List.length_take, List.length_drop, kernelOps_length]; omega)
  rwa [← List.drop_drop, ← List.drop_drop, List.take_append_drop, List.take_append_drop] at h

/-- The two lines are in step from the first result to the latent array. -/
theorem inStep : InStep (Val := Elt F) 19 312 kernelOps refOps :=
  cut 0 60 60 rfl (by decide) inStep0 (cut 60 50 110 rfl (by decide) inStep1 (cut 110 40 150 rfl (by decide) inStep2
    (cut 150 40 190 rfl (by decide) inStep3 (cut 190 35 225 rfl (by decide) inStep4
      (cut 225 35 260 rfl (by decide) inStep5 inStep6)))))

/-- The reference's line leaves the stage `val_main_v258` of its arguments in the latent array. -/
theorem ref_latent (V0 : Valuation ReferenceIdeal.τ ReferenceIdeal.sig (Elt F)) :
    after refOps V0 (Proc.devRef .tc ReferenceIdeal.main_v258) = ReferenceIdeal.Read.val_main_v258 (V0 (Proc.devRef .tc ReferenceIdeal.main_arg1)) (V0 (Proc.devRef .tc ReferenceIdeal.main_arg2)) (V0 (Proc.devRef .tc ReferenceIdeal.main_arg3)) (V0 (Proc.devRef .tc ReferenceIdeal.main_arg4)) (V0 (Proc.devRef .tc ReferenceIdeal.main_arg5)) (V0 (Proc.devRef .tc ReferenceIdeal.main_arg6)) (V0 (Proc.devRef .tc ReferenceIdeal.main_arg7)) (V0 (Proc.devRef .tc ReferenceIdeal.main_arg8)) (V0 (Proc.devRef .tc ReferenceIdeal.main_arg9)) (V0 (Proc.devRef .tc ReferenceIdeal.main_arg10)) (V0 (Proc.devRef .tc ReferenceIdeal.main_arg11)) (V0 (Proc.devRef .tc ReferenceIdeal.main_arg12)) (V0 (Proc.devRef .tc ReferenceIdeal.main_arg13)) (V0 (Proc.devRef .tc ReferenceIdeal.main_arg14)) (V0 (Proc.devRef .tc ReferenceIdeal.main_arg15)) (V0 (Proc.devRef .tc ReferenceIdeal.main_arg16)) (V0 (Proc.devRef .tc ReferenceIdeal.main_arg17)) (V0 (Proc.devRef .tc ReferenceIdeal.main_arg18)) := by
  have h := ReferenceIdeal.Value.val4_2_main_v258 (F := F) V0
  unfold refOps
  simp only [after_append]
  exact h.trans rfl

/-- Contents that agree at one buffer of a number agree at any buffer of that number. -/
theorem pick {V : Valuation KernelIdeal.τ KernelIdeal.sig (Elt F)} {V' : Valuation ReferenceIdeal.τ ReferenceIdeal.sig (Elt F)}
    {k : Nat} {x r : Ref KernelIdeal.sig .tc} {x' r' : Ref ReferenceIdeal.sig .tc} (hx : Num x k) (hx' : Num x' k)
    (hr : Num r k) (hr' : Num r' k) (h : HEq (V (Proc.devRef .tc x)) (V' (Proc.devRef .tc x'))) :
    HEq (V (Proc.devRef .tc r)) (V' (Proc.devRef .tc r')) := by
  cases hx.unique hr
  cases hx'.unique hr'
  exact h

/-- Where the two programs' arguments agree, the kernel's line leaves in the latent array the reference's stage
    `val_main_v258` of those arguments. -/
theorem latent_eq (V : Valuation KernelIdeal.τ KernelIdeal.sig (Elt F))
    (V' : Valuation ReferenceIdeal.τ ReferenceIdeal.sig (Elt F))
    (h0 : V' (Proc.devRef .tc ReferenceIdeal.main_arg0) = V (Proc.devRef .tc KernelIdeal.main_arg0))
    (h1 : V' (Proc.devRef .tc ReferenceIdeal.main_arg1) = V (Proc.devRef .tc KernelIdeal.main_arg1))
    (h2 : V' (Proc.devRef .tc ReferenceIdeal.main_arg2) = V (Proc.devRef .tc KernelIdeal.main_arg2))
    (h3 : V' (Proc.devRef .tc ReferenceIdeal.main_arg3) = V (Proc.devRef .tc KernelIdeal.main_arg3))
    (h4 : V' (Proc.devRef .tc ReferenceIdeal.main_arg4) = V (Proc.devRef .tc KernelIdeal.main_arg4))
    (h5 : V' (Proc.devRef .tc ReferenceIdeal.main_arg5) = V (Proc.devRef .tc KernelIdeal.main_arg5))
    (h6 : V' (Proc.devRef .tc ReferenceIdeal.main_arg6) = V (Proc.devRef .tc KernelIdeal.main_arg6))
    (h7 : V' (Proc.devRef .tc ReferenceIdeal.main_arg7) = V (Proc.devRef .tc KernelIdeal.main_arg7))
    (h8 : V' (Proc.devRef .tc ReferenceIdeal.main_arg8) = V (Proc.devRef .tc KernelIdeal.main_arg8))
    (h9 : V' (Proc.devRef .tc ReferenceIdeal.main_arg9) = V (Proc.devRef .tc KernelIdeal.main_arg9))
    (h10 : V' (Proc.devRef .tc ReferenceIdeal.main_arg10) = V (Proc.devRef .tc KernelIdeal.main_arg10))
    (h11 : V' (Proc.devRef .tc ReferenceIdeal.main_arg11) = V (Proc.devRef .tc KernelIdeal.main_arg11))
    (h12 : V' (Proc.devRef .tc ReferenceIdeal.main_arg12) = V (Proc.devRef .tc KernelIdeal.main_arg12))
    (h13 : V' (Proc.devRef .tc ReferenceIdeal.main_arg13) = V (Proc.devRef .tc KernelIdeal.main_arg13))
    (h14 : V' (Proc.devRef .tc ReferenceIdeal.main_arg14) = V (Proc.devRef .tc KernelIdeal.main_arg14))
    (h15 : V' (Proc.devRef .tc ReferenceIdeal.main_arg15) = V (Proc.devRef .tc KernelIdeal.main_arg15))
    (h16 : V' (Proc.devRef .tc ReferenceIdeal.main_arg16) = V (Proc.devRef .tc KernelIdeal.main_arg16))
    (h17 : V' (Proc.devRef .tc ReferenceIdeal.main_arg17) = V (Proc.devRef .tc KernelIdeal.main_arg17))
    (h18 : V' (Proc.devRef .tc ReferenceIdeal.main_arg18) = V (Proc.devRef .tc KernelIdeal.main_arg18)) :
    after kernelOps V (Proc.devRef .tc KernelIdeal.main_v258) = ReferenceIdeal.Read.val_main_v258 (V' (Proc.devRef .tc ReferenceIdeal.main_arg1)) (V' (Proc.devRef .tc ReferenceIdeal.main_arg2)) (V' (Proc.devRef .tc ReferenceIdeal.main_arg3)) (V' (Proc.devRef .tc ReferenceIdeal.main_arg4)) (V' (Proc.devRef .tc ReferenceIdeal.main_arg5)) (V' (Proc.devRef .tc ReferenceIdeal.main_arg6)) (V' (Proc.devRef .tc ReferenceIdeal.main_arg7)) (V' (Proc.devRef .tc ReferenceIdeal.main_arg8)) (V' (Proc.devRef .tc ReferenceIdeal.main_arg9)) (V' (Proc.devRef .tc ReferenceIdeal.main_arg10)) (V' (Proc.devRef .tc ReferenceIdeal.main_arg11)) (V' (Proc.devRef .tc ReferenceIdeal.main_arg12)) (V' (Proc.devRef .tc ReferenceIdeal.main_arg13)) (V' (Proc.devRef .tc ReferenceIdeal.main_arg14)) (V' (Proc.devRef .tc ReferenceIdeal.main_arg15)) (V' (Proc.devRef .tc ReferenceIdeal.main_arg16)) (V' (Proc.devRef .tc ReferenceIdeal.main_arg17)) (V' (Proc.devRef .tc ReferenceIdeal.main_arg18)) := by
  have hA : Agree 19 V V' := by
    intro r r' k hk hr hr'
    interval_cases k
    · exact pick ⟨rfl, rfl⟩ ⟨rfl, rfl⟩ hr hr' (heq_of_eq h0.symm)
    · exact pick ⟨rfl, rfl⟩ ⟨rfl, rfl⟩ hr hr' (heq_of_eq h1.symm)
    · exact pick ⟨rfl, rfl⟩ ⟨rfl, rfl⟩ hr hr' (heq_of_eq h2.symm)
    · exact pick ⟨rfl, rfl⟩ ⟨rfl, rfl⟩ hr hr' (heq_of_eq h3.symm)
    · exact pick ⟨rfl, rfl⟩ ⟨rfl, rfl⟩ hr hr' (heq_of_eq h4.symm)
    · exact pick ⟨rfl, rfl⟩ ⟨rfl, rfl⟩ hr hr' (heq_of_eq h5.symm)
    · exact pick ⟨rfl, rfl⟩ ⟨rfl, rfl⟩ hr hr' (heq_of_eq h6.symm)
    · exact pick ⟨rfl, rfl⟩ ⟨rfl, rfl⟩ hr hr' (heq_of_eq h7.symm)
    · exact pick ⟨rfl, rfl⟩ ⟨rfl, rfl⟩ hr hr' (heq_of_eq h8.symm)
    · exact pick ⟨rfl, rfl⟩ ⟨rfl, rfl⟩ hr hr' (heq_of_eq h9.symm)
    · exact pick ⟨rfl, rfl⟩ ⟨rfl, rfl⟩ hr hr' (heq_of_eq h10.symm)
    · exact pick ⟨rfl, rfl⟩ ⟨rfl, rfl⟩ hr hr' (heq_of_eq h11.symm)
    · exact pick ⟨rfl, rfl⟩ ⟨rfl, rfl⟩ hr hr' (heq_of_eq h12.symm)
    · exact pick ⟨rfl, rfl⟩ ⟨rfl, rfl⟩ hr hr' (heq_of_eq h13.symm)
    · exact pick ⟨rfl, rfl⟩ ⟨rfl, rfl⟩ hr hr' (heq_of_eq h14.symm)
    · exact pick ⟨rfl, rfl⟩ ⟨rfl, rfl⟩ hr hr' (heq_of_eq h15.symm)
    · exact pick ⟨rfl, rfl⟩ ⟨rfl, rfl⟩ hr hr' (heq_of_eq h16.symm)
    · exact pick ⟨rfl, rfl⟩ ⟨rfl, rfl⟩ hr hr' (heq_of_eq h17.symm)
    · exact pick ⟨rfl, rfl⟩ ⟨rfl, rfl⟩ hr hr' (heq_of_eq h18.symm)
  exact (eq_of_heq (inStep.agree hA KernelIdeal.main_v258 ReferenceIdeal.main_v258 311 (by decide) ⟨rfl, rfl⟩ ⟨rfl, rfl⟩)).trans
    (ref_latent V')

end Cert.Prefix

end
-- ==== Proof.KernelRun.lean ====
/-
  What the kernel's run leaves in its two results: the first is the block the region writes, the second the lines after
  the region applied to the other block.
-/
module

public import proofs.«01_k».proof.Proof.Gen.KernelIdeal.Frame
public import Idealize.ShloMosaic.Lib.Pipeline.ValueKit
public import Idealize.ShloMosaic.Lib.StableHlo.Run

@[expose] public section

set_option maxRecDepth 16384

noncomputable section

namespace Cert.KernelRun
open Idealize.ShloMosaic Idealize.ShloMosaic.TcCoe Idealize.ShloMosaic.StableHlo Idealize.SL.Sem Cert.KernelIdeal Cert.KernelIdeal.Gen

variable {F : FTy → Type} [FloatOps F]
variable (m : (ℓ : Loc nD τ sig) → Buf (Elt F) ℓ) (ρ : Dev nD → PrngReg)

/-- Every window's block index at the one point. -/
theorem idx : ∀ t : Fin cfg0.N, win0_0.index t = ![0, 0, 0] ∧ win0_1.index t = ![0, 0] ∧ win0_2.index t = ![0, 0, 0] ∧ win0_3.index t = ![0, 0] :=
  (by decide +kernel : ∀ t : Fin grid0.N, _)

/-- The first input window's block is the whole latent array. -/
theorem iblk0 (c : Dev nD) : iblk m c 0 t0_0 = V m c main_v258 := by
  blk_ext! [iblk, idx t0_0]

/-- The second input window's block is the whole first argument. -/
theorem iblk1 (c : Dev nD) : iblk m c 1 t0_0 = V m c main_arg0 := by
  blk_ext! [iblk, idx t0_0]

/-- The first output array after the region. -/
theorem arr2 (c : Dev nD) : (dats m 0 c).arrAt 2 cfg0.N = out0_2 (V m c main_v258) (V m c main_arg0) := by
  rw [← iblk0 m c, ← iblk1 m c, ← after0_2 m c t0_0]
  refine (dats m 0 c).arrAt_eq_of_after_last 2 t0_0 (by decide +kernel) _ fun j => ?_
  blk_simp

/-- The second output array after the region. -/
theorem arr3 (c : Dev nD) : (dats m 0 c).arrAt 3 cfg0.N = out0_3 (V m c main_v258) (V m c main_arg0) := by
  rw [← iblk0 m c, ← iblk1 m c, ← after0_3 m c t0_0]
  refine (dats m 0 c).arrAt_eq_of_after_last 3 t0_0 (by decide +kernel) _ fun j => ?_
  blk_simp

/-- The lines after the region: column zero of the second output array, as integers. -/
theorem tail (c : Dev nD) :
    Pipeline.afterTail₀ cfgs (dats m) 0 (V0 m) [hostOps1] c main_v262
      = fptosi 32 (shapeCast S32 (extractStridedSlice S32x1 ![0, 0] ((dats m 0 c).arrAt 3 cfg0.N) slices_S32x128_S32x1_0_0) shapeCasts_S32x1_S32) := by
  unfold Pipeline.afterTail₀
  simp only [hostOps1, List.flatten_cons, List.flatten_nil, List.append_nil]
  after_results_simp
  rw [show Pipeline.withArrays (cfgs 0).spec c (V0 m c) (fun w => (dats m 0 c).arrAt w (cfgs 0).N) (Proc.devRef .tc main_v259_1) = (dats m 0 c).arrAt 3 cfg0.N from
    Pipeline.withArrays_arr spec0 (by decide) c (V0 m c) (fun w => (dats m 0 c).arrAt w cfg0.N) 3]
  rfl

/-- The run: the two results as values of the latent array and the first argument, and every argument unchanged. -/
theorem results : θ_run defs (onTc (τ := τ) (main (F := F))) ⟨m, fun _ => 0, ρ⟩ (fun r => ∀ c : Dev nD,
    r.2.mem ((c.tc : Thread nD τ).loc main_v259_0) = out0_2 (V m c main_v258) (V m c main_arg0)
    ∧ r.2.mem ((c.tc : Thread nD τ).loc main_v262)
      = fptosi 32 (shapeCast S32 (extractStridedSlice S32x1 ![0, 0] (out0_3 (V m c main_v258) (V m c main_arg0)) slices_S32x128_S32x1_0_0) shapeCasts_S32x1_S32)) := by
  refine (θ_run defs _ _).mono (fun r h c => ⟨((h c).1 2).trans (arr2 m c), ?_⟩) (run_main m ρ)
  rw [← arr3 m c, ← tail m c]
  exact (h c).2 main_v262 (Pipeline.mem_restRefs_of main_v262 (by decide) (by decide))

end Cert.KernelRun

end
-- ==== Proof.Ranking.lean ====
/-
  Ranks. A stable sort by a key puts at place `k` exactly the position that `k` others precede, where "precede" breaks
  ties by position. Counting predecessors is therefore another way of sorting: it is the way the kernel takes, while the
  reference calls `argsort`.
-/
module

public import Idealize.ShloMosaic.Lib.SortFacts
public import Idealize.ShloMosaic.Lib.SortPrefix

@[expose] public section

namespace Cert.Ranking
open Idealize.ShloMosaic

/-- The number of positions that come before `p`. -/
def rank {n : Nat} (B : Fin n → Fin n → Bool) (p : Fin n) : Nat := (Finset.univ.filter fun j => B j p = true).card

/-- Exactly `k` positions precede the one that the sort puts at place `k`. -/
theorem rank_sortedFrom {n : Nat} {B : Fin n → Fin n → Bool} (hB : StrictTotalBefore B) (k : Fin n) :
    rank B (sortedFrom B k) = k := by
  have hinj := sortedFrom_injective B
  have hno : ∀ i j : Fin n, i < j → B (sortedFrom B j) (sortedFrom B i) = false := fun i j h =>
    sortedFrom_noInversion B B (fun a b h => hB.asymm a b h) (fun _ _ h => h) hB.negTrans i j h
  have himg : (Finset.univ.filter fun j => B j (sortedFrom B k) = true) = (Finset.Iio k).image (sortedFrom B) := by
    ext p
    obtain ⟨i, rfl⟩ := sortedFrom_surjective B p
    simp only [Finset.mem_filter, Finset.mem_univ, true_and, Finset.mem_image, Finset.mem_Iio]
    constructor
    · intro h
      refine ⟨i, ?_, rfl⟩
      by_contra hik
      rcases eq_or_lt_of_le (not_lt.1 hik) with e | hlt
      · subst e; rw [hB.irrefl] at h; exact absurd h (by decide)
      · rw [hno k i hlt] at h; exact absurd h (by decide)
    · rintro ⟨i', hi', e⟩
      obtain rfl := hinj e
      rcases hB.total (sortedFrom B i') (sortedFrom B k) (fun e => absurd (hinj e) (ne_of_lt hi')) with h | h
      · exact h
      · rw [hno i' k hi'] at h; exact absurd h (by decide)
  rw [rank, himg, Finset.card_image_of_injective _ hinj, Fin.card_Iio]

/-- The position of rank `k` is the one the sort puts at place `k`. -/
theorem rank_eq_iff {n : Nat} {B : Fin n → Fin n → Bool} (hB : StrictTotalBefore B) (p k : Fin n) :
    rank B p = k ↔ p = sortedFrom B k := by
  constructor
  · intro h
    obtain ⟨i, rfl⟩ := sortedFrom_surjective B p
    rw [rank_sortedFrom hB] at h
    rw [Fin.ext h]
  · rintro rfl; exact rank_sortedFrom hB k

/-- The order that compares keys by `lt` and, where the keys agree, positions. -/
def keyed {n : Nat} {κ : Type} [DecidableEq κ] (lt : κ → κ → Bool) (key : Fin n → κ) (i j : Fin n) : Bool :=
  lt (key i) (key j) || (decide (key i = key j) && decide (i < j))

/-- On a list of increasing positions the stable sort by keys alone is the sort by keys and then positions. -/
theorem stableSort_keyed {n : Nat} {κ : Type} [DecidableEq κ] (lt : κ → κ → Bool) (key : Fin n → κ) (l : List (Fin n))
    (hl : l.Pairwise (· < ·)) : stableSort (fun i j => lt (key i) (key j)) l = stableSort (keyed lt key) l := by
  induction l with
  | nil => rfl
  | cons a l ih =>
    rw [List.pairwise_cons] at hl
    unfold stableSort
    rw [ih hl.2]
    refine insertBefore_congr _ _ a _ fun b hb => ?_
    have hab := hl.1 b ((perm_stableSort _ l).mem_iff.mp hb)
    simp [keyed, not_lt_of_gt hab]

/-- So the sorting permutation of the keys alone is that of the keys and then positions. -/
theorem sortedFrom_keyed {n : Nat} {κ : Type} [DecidableEq κ] (lt : κ → κ → Bool) (key : Fin n → κ) :
    sortedFrom (fun i j => lt (key i) (key j)) = sortedFrom (keyed lt key) := by
  have h := stableSort_keyed lt key (List.finRange n) (by simpa using List.pairwise_lt_finRange n)
  funext k
  unfold sortedFrom
  rw [List.get_of_eq (show sortPositions n _ = sortPositions n _ from h)]
  rfl

end Cert.Ranking
-- ==== Proof.Indicators.lean ====
/-
  Bits, words and small constants read as extended reals, and sums of one-hot rows.
-/
module

public import Idealize.ShloMosaic.Lib.Pointwise

@[expose] public section

noncomputable section

namespace Cert.Indicators
open Idealize.ShloMosaic

/-- A bit widened to a word and converted is one where the bit is set and zero elsewhere. -/
theorem ofBool_float (b : Bool) :
    FloatOps.sitofp (F := Ideal) .f32 (BitVec.setWidth 32 (BitVec.ofBool b)) = if b = true then (1 : EReal) else 0 := by
  cases b <;> simp [FloatOps.sitofp]

/-- A word of a small natural number is that number, read signed. -/
theorem toInt_ofNat (n : Nat) (hn : n < 2147483648) : (BitVec.ofNat 32 n).toInt = (n : Int) := by
  rw [BitVec.toInt_eq_toNat_cond, BitVec.toNat_ofNat]; split <;> omega

/-- A word of a small natural number converts to that number. -/
theorem ofNat_float (n : Nat) (hn : n < 2147483648) :
    FloatOps.sitofp (F := Ideal) .f32 (BitVec.ofNat 32 n) = (n : EReal) := by
  show (((BitVec.ofNat 32 n).toInt : ℝ) : EReal) = _
  rw [toInt_ofNat n hn]; simp

/-- Comparing the words of two small natural numbers compares the numbers. -/
theorem cmpi_eq_ofNat (a b : Nat) (ha : a < 2147483648) (hb : b < 2147483648) :
    IntOp.cmpi CmpIPredicate.eq (BitVec.ofNat 32 a) (BitVec.ofNat 32 b) = BitVec.ofBool (decide (a = b)) := by
  have h : BitVec.ofNat 32 a = BitVec.ofNat 32 b ↔ a = b := by
    rw [← BitVec.toNat_inj, BitVec.toNat_ofNat, BitVec.toNat_ofNat]; omega
  show BitVec.ofBool (BitVec.ofNat 32 a == BitVec.ofNat 32 b) = _
  congr 1
  rw [Bool.eq_iff_iff, beq_iff_eq, decide_eq_true_eq, h]

/-- The same for the signed order. -/
theorem cmpi_slt_ofNat (a b : Nat) (ha : a < 2147483648) (hb : b < 2147483648) :
    IntOp.cmpi CmpIPredicate.slt (BitVec.ofNat 32 a) (BitVec.ofNat 32 b) = BitVec.ofBool (decide (a < b)) := by
  show BitVec.ofBool ((BitVec.ofNat 32 a).slt (BitVec.ofNat 32 b)) = _
  congr 1
  rw [BitVec.slt, toInt_ofNat a ha, toInt_ofNat b hb]
  simp

/-- A sum of ones over the indices with a property is their number. -/
theorem sum_ones {ι : Type} [Fintype ι] (P : ι → Prop) [DecidablePred P] :
    (∑ j, if P j then (1 : EReal) else 0) = ((Finset.univ.filter P).card : EReal) := by
  rw [Finset.sum_ite, Finset.sum_const_zero, add_zero, Finset.sum_const, nsmul_one]

/-- Multiplying by a one-hot row and summing picks an entry out. -/
theorem sum_oneHot {ι : Type} [Fintype ι] [DecidableEq ι] (P : ι → Prop) [DecidablePred P] (s : ι)
    (hP : ∀ x, P x ↔ x = s) (f : ι → EReal) : (∑ x, (if P x then (1 : EReal) else 0) * f x) = f s := by
  rw [Finset.sum_eq_single s]
  · rw [if_pos ((hP s).2 rfl), one_mul]
  · intro x _ hx; rw [if_neg fun h => hx ((hP x).1 h), zero_mul]
  · intro h; exact absurd (Finset.mem_univ s) h

/-- The same with the one-hot row on the right. -/
theorem sum_oneHot_right {ι : Type} [Fintype ι] [DecidableEq ι] (P : ι → Prop) [DecidablePred P] (s : ι)
    (hP : ∀ x, P x ↔ x = s) (f : ι → EReal) : (∑ x, f x * (if P x then (1 : EReal) else 0)) = f s := by
  simp only [mul_comm (f _)]; exact sum_oneHot P s hP f

theorem natCast_min (a b : Nat) : min (a : EReal) (b : EReal) = ((min a b : Nat) : EReal) := (Nat.mono_cast.map_min).symm
theorem natCast_max (a b : Nat) : max (a : EReal) (b : EReal) = ((max a b : Nat) : EReal) := (Nat.mono_cast.map_max).symm

/-- The float constant sixteen. -/
theorem ofBits_sixteen : Ideal.ofBits .f32 0x41800000#32 = ((16 : Nat) : EReal) := by
  rw [show ((16 : Nat) : EReal) = ((16 : ℝ) : EReal) by norm_cast]
  simp [Ideal.ofBits, Ideal.ieee, -EReal.coe_mul]; norm_num

/-- The float constant thirty-two. -/
theorem ofBits_thirtytwo : Ideal.ofBits .f32 0x42000000#32 = ((32 : Nat) : EReal) := by
  rw [show ((32 : Nat) : EReal) = ((32 : ℝ) : EReal) by norm_cast]
  simp [Ideal.ofBits, Ideal.ieee, -EReal.coe_mul]; norm_num

end Cert.Indicators

end
-- ==== Proof.Choice.lean ====
/-
  The choice of rows, as mathematics. Of 32 weights: the order of decreasing weight (of equal weights the earlier
  first); how many weights exceed the threshold, kept between 1 and 16; a key for each of 16 places, which is the position
  in that order at the places kept and 32 and more at the others; and the 16 places taken by increasing key.
-/
module

public import proofs.«01_k».proof.Proof.Ranking
public import proofs.«01_k».proof.Proof.Indicators

@[expose] public section

noncomputable section

namespace Cert.Choice
open Idealize.ShloMosaic Cert.Ranking Cert.Indicators

/-- A place among the first 16, as one of 32. -/
abbrev place (k : Fin 16) : Fin 32 := k.castLE (by decide)

/-- Position `i` comes before `j`: its weight is larger, or the same and `i` is the smaller. -/
abbrev heavier (a : Fin 32 → EReal) : Fin 32 → Fin 32 → Bool := keyed (fun x y => decide (y < x)) a

/-- The position at place `k` in the order of decreasing weight. -/
def order (a : Fin 32 → EReal) : Fin 32 → Fin 32 := sortedFrom (heavier a)

/-- How many places are kept. -/
def kept (a : Fin 32 → EReal) : Nat :=
  min 16 (max 1 (min (Finset.univ.filter fun j => Ideal.ofBits .f32 0x3CA3D70A#32 < a j).card 16))

/-- The key of a place. -/
def key (a : Fin 32 → EReal) (k : Fin 16) : Nat := if k.val < kept a then (order a (place k)).val else 32 + k.val

/-- Place `k` comes before place `l`: its key is smaller. -/
abbrev smaller (a : Fin 32 → EReal) : Fin 16 → Fin 16 → Bool := keyed (fun x y => decide (x < y)) (key a)

/-- The place taken `k`-th. -/
def taken (a : Fin 32 → EReal) : Fin 16 → Fin 16 := sortedFrom (smaller a)

/-- The position chosen `k`-th. -/
def chosen (a : Fin 32 → EReal) (k : Fin 16) : Fin 32 := order a (place (taken a k))

theorem heavier_total (a : Fin 32 → EReal) : StrictTotalBefore (heavier a) :=
  StrictTotalBefore.of_key_then_position (fun x y => decide (y < x)) a (by simp)
    (fun x y z h h' => by simp only [decide_eq_true_eq] at *; exact h'.trans h) (fun x y => by simp only [decide_eq_true_eq]; rcases lt_trichotomy y x with h | h | h <;> simp [h])

theorem smaller_total (a : Fin 32 → EReal) : StrictTotalBefore (smaller a) :=
  StrictTotalBefore.of_key_then_position (fun x y => decide (x < y)) (key a) (by simp)
    (fun x y z h h' => by simp only [decide_eq_true_eq] at *; omega) (fun x y => by simp only [decide_eq_true_eq]; omega)

/-- No two places have the same key. -/
theorem key_injective (a : Fin 32 → EReal) : Function.Injective (key a) := by
  intro k l h
  have hk := (order a (place k)).isLt
  have hl := (order a (place l)).isLt
  unfold key at h
  split at h <;> split at h
  · have := sortedFrom_injective (heavier a) (Fin.ext h)
    exact Fin.ext (by simpa [place, Fin.ext_iff] using this)
  · omega
  · omega
  · exact Fin.ext (by omega)

/-- So places compare by their keys alone. -/
theorem smaller_iff (a : Fin 32 → EReal) (k l : Fin 16) : smaller a k l = true ↔ key a k < key a l := by
  simp only [smaller, keyed, Bool.or_eq_true, Bool.and_eq_true, decide_eq_true_eq]
  constructor
  · rintro (h | ⟨h, h'⟩)
    · exact h
    · exact absurd (key_injective a h) (ne_of_lt h')
  · exact Or.inl

theorem heavier_iff (a : Fin 32 → EReal) (i j : Fin 32) : heavier a i j = true ↔ a j < a i ∨ a i = a j ∧ i < j := by
  simp [heavier, keyed]

end Cert.Choice

end
-- ==== Proof.KernelChoice.lean ====
/-
  The kernel's choice of rows. The region computes it with no sort: it counts, for every position, the positions that come
  before it, compares the counts with a place and sums one-hot rows. Read at an index, each stage is a quantity of `Choice`.
-/
module

public import proofs.«01_k».proof.Proof.Choice
public import proofs.«01_k».proof.Proof.Gen.KernelIdeal.Frame

@[expose] public section

set_option maxRecDepth 16384

noncomputable section

namespace Cert.KernelChoice
open Idealize.ShloMosaic Cert.KernelIdeal Cert.KernelIdeal.Gen Cert.Ranking Cert.Indicators Cert.Choice

/-- The weights of batch row `s`: column `s` of the softmax. -/
abbrev col (A : FVec Ideal S32x32 .f32) (s : Fin 32) (i : Fin 32) : EReal := A (ix2 i s)

/-- The identity matrix of size 32. -/
theorem eye32 (r c : Fin 32) : k0_pay35 (F := Ideal) (ix2 r c) = if c = r then (1 : EReal) else 0 := by
  pointwise [k0_pay35]
  rw [cmpi_eq_ofNat _ _ (by omega) (by omega), ofBool_float]
  simp [Fin.ext_iff, eq_comm]

/-- How many places are kept, as a float. -/
theorem kept_float (A : FVec Ideal S32x32 .f32) (s : Fin 32) :
    k0_pay37 A (k0_pay35 (F := Ideal)) (ix2 s 0) = ((kept (col A s) : Nat) : EReal) := by
  pointwise [k0_pay37]
  simp only [eye32, ofBool_float, decide_eq_true_eq]
  rw [sum_oneHot _ s (fun _ => Iff.rfl), sum_ones, ofBits_sixteen, natCast_min,
    show (1 : EReal) = ((1 : Nat) : EReal) by simp, natCast_max, natCast_min]
  rfl

/-- The mask of the pairs in which the third coordinate comes before the second. -/
def Mask (W : IVec S32x32x32 32) (A : FVec Ideal S32x32 .f32) : Prop :=
  ∀ s i j : Fin 32, W (ix3 s i j) = BitVec.setWidth 32 (BitVec.ofBool (heavier (col A s) j i))

/-- The position at a place of the order of decreasing weight, as a float. -/
theorem order_float {W : IVec S32x32x32 32} {A : FVec Ideal S32x32 .f32} (hW : Mask W A) (s : Fin 32) (k : Fin 16) :
    k0_pay38 (F := Ideal) W (ix2 s k) = ((order (col A s) (place k)).val : EReal) := by
  pointwise [k0_pay38]
  simp only [hW s, ofBool_float, decide_eq_true_eq, sum_ones]
  refine (Finset.sum_congr rfl fun x _ => ?_).trans (sum_oneHot (fun x => x = order (col A s) (place k)) _ (fun _ => Iff.rfl)
    fun x => (x.val : EReal))
  rw [ofNat_float _ (by omega), ofNat_float _ (by omega)]
  congr 1
  exact if_congr (EReal.natCast_eq_iff.trans (rank_eq_iff (heavier_total (col A s)) x (place k))) rfl rfl

/-- The key of a place, as a float. -/
theorem key_float {W : IVec S32x32x32 32} {A : FVec Ideal S32x32 .f32} (hW : Mask W A) (s : Fin 32) (k : Fin 16) :
    (if FloatOps.sitofp (F := Ideal) FTy.f32 (BitVec.ofNat 32 k.val) < k0_pay37 A (k0_pay35 (F := Ideal)) (ix2 s 0)
      then k0_pay38 (F := Ideal) W (ix2 s k)
      else Ideal.ofBits FTy.f32 0x42000000#32 + FloatOps.sitofp (F := Ideal) FTy.f32 (BitVec.ofNat 32 k.val) : EReal)
      = ((key (col A s) k : Nat) : EReal) := by
  rw [kept_float, order_float hW, ofNat_float _ (by omega), ofBits_thirtytwo]
  unfold key
  by_cases h : k.val < kept (col A s)
  · rw [if_pos (EReal.natCast_lt_iff.2 h), if_pos h]
  · rw [if_neg (fun h' => h (EReal.natCast_lt_iff.1 h')), if_neg h]; push_cast; rfl

/-- The one-hot rows of the places by increasing key. -/
theorem taken_float {W : IVec S32x32x32 32} {A : FVec Ideal S32x32 .f32} (hW : Mask W A) (s : Fin 32) (k l : Fin 16) :
    k0_pay39 (F := Ideal) A (k0_pay35 (F := Ideal)) W (ix3 s k l) = if l = taken (col A s) k then (1 : EReal) else 0 := by
  pointwise [k0_pay39]
  simp only [key_float hW s, ofBool_float, decide_eq_true_eq, EReal.natCast_lt_iff, sum_ones]
  rw [ofNat_float _ (by omega)]
  refine if_congr (EReal.natCast_eq_iff.trans (Iff.trans ?_ (rank_eq_iff (smaller_total (col A s)) l k))) rfl rfl
  simp only [rank, smaller_iff]

/-- The positions along the last coordinate. -/
theorem along_float {W : IVec S32x32x32 32} {A : FVec Ideal S32x32 .f32} (hW : Mask W A) (s : Fin 32) (k l : Fin 16) :
    k0_pay40 (F := Ideal) W (ix3 s k l) = ((order (col A s) (place l)).val : EReal) := by
  pointwise [k0_pay40]
  exact order_float hW s l

/-- The one-hot rows of the positions chosen. -/
theorem chosen_float {W : IVec S32x32x32 32} {A : FVec Ideal S32x32 .f32} (hW : Mask W A) (s : Fin 32) (k : Fin 16)
    (c : Fin 32) :
    k0_pay41 (F := Ideal) (k0_pay39 (F := Ideal) A (k0_pay35 (F := Ideal)) W) (k0_pay40 (F := Ideal) W) (ix3 s k c)
      = if c = chosen (col A s) k then (1 : EReal) else 0 := by
  pointwise [k0_pay41]
  simp only [taken_float hW, along_float hW]
  rw [sum_oneHot _ _ (fun _ => Iff.rfl), ofNat_float _ (by omega), ofBool_float]
  refine if_congr ?_ rfl rfl
  rw [decide_eq_true_eq]
  refine EReal.natCast_eq_iff.trans ?_
  exact ⟨fun h => Fin.ext h.symm, fun h => by rw [h]; rfl⟩

end Cert.KernelChoice

end
-- ==== Proof.Weights.lean ====
/-
  The weights as mathematics: the inner product of a latent row with the batch row's prompt, and the softmax of 32 such
  numbers.
-/
module

public import Idealize.ShloMosaic.Lib.Pointwise

@[expose] public section

noncomputable section

namespace Cert.Weights
open Idealize.ShloMosaic

/-- The score of row `k` of a batch row's latent block `L` against its prompt `p`. -/
def score (L : Fin 32 → Fin 768 → EReal) (p : Fin 768 → EReal) (k : Fin 32) : EReal := ∑ x, L k x * p x

/-- The largest of 32 numbers. -/
def peak (z : Fin 32 → EReal) : EReal := Finset.univ.fold max ⊥ z

/-- The softmax of 32 numbers at a position. -/
def weight (z : Fin 32 → EReal) (i : Fin 32) : EReal :=
  Ideal.div (Ideal.exp (z i - peak z)) (∑ j, Ideal.exp (z j - peak z))

/-- The weights of the rows of a latent block. -/
def weights (L : Fin 32 → Fin 768 → EReal) (p : Fin 768 → EReal) : Fin 32 → EReal := weight (score L p)

/-- A row scaled to unit length, the length kept off zero. -/
def unit (v : Fin 768 → EReal) (c : Fin 768) : EReal :=
  Ideal.div (v c) (max (Ideal.sqrt (∑ x, v x * v x)) (Ideal.ofBits .f32 0x2B8CBCCC#32))

end Cert.Weights
-- ==== Proof.KernelWeights.lean ====
/-
  The kernel's weights. The region multiplies the blocks one batch row at a time with a column of the transposed prompts,
  lays the 32 columns side by side and takes the softmax down the columns.
-/
module

public import proofs.«01_k».proof.Proof.KernelChoice
public import proofs.«01_k».proof.Proof.Weights
public import Idealize.ShloMosaic.Lib.Pipeline.ValueKit

@[expose] public section

set_option maxRecDepth 16384
set_option maxHeartbeats 2000000

noncomputable section

namespace Cert.KernelWeights
open Idealize.ShloMosaic Cert.KernelIdeal Cert.KernelIdeal.Gen Cert.Ranking Cert.Indicators Cert.Choice Cert.KernelChoice
open Cert.Weights

/-- Batch row `s` of the latent array, as rows. -/
abbrev rowsOf (x0 : Vec Ideal S32x32x768 .f32) (s k : Fin 32) (x : Fin 768) : EReal := x0 (ix3 s k x)

/-- The prompt of batch row `s`. -/
abbrev promptOf (x1 : Vec Ideal S32x768 .f32) (s : Fin 32) (x : Fin 768) : EReal := x1 (ix2 s x)

/-- The kernel's transpose of the prompts: a product with the identity matrix. -/
theorem turned (v : Vec Ideal S32x768 .f32) (t : Fin 768) (s : Fin 32) : k0_pay3 v (ix2 t s) = v (ix2 s t) := by
  pointwise [k0_pay3]
  rw [← sum_oneHot (fun x : Fin 768 => x = t) t (fun _ => Iff.rfl) fun x => v (ix2 s x)]
  refine Finset.sum_congr rfl fun x _ => ?_
  rw [cmpi_eq_ofNat _ _ (by omega) (by omega), ofBool_float]
  simp [Fin.ext_iff, eq_comm]

/-- The same for the prompts as the region loads them. -/
theorem turned_load (x0 : Vec Ideal S32x32x768 .f32) (x1 : Vec Ideal S32x768 .f32) (t : Fin 768) (s : Fin 32) :
    k0_pay93 (F := Ideal) x0 x1 (ix2 t s) = x1 (ix2 s t) := by
  unfold k0_pay93
  rw [turned]
  pointwise []

/-- A product with one column, at an index. -/
theorem product (Y : FVec Ideal S32x768 .f32) (w : FVec Ideal S768x1 .f32) (k : Fin 32) :
    matmul dot_S32x768_S768x1_S32x1_1_0_0_1_n_n none Y w (constant S32x1 .f32 0x00000000#32) (ix2 k 0)
      = ∑ x : Fin 768, Y (ix2 k x) * w (ix2 x 0) := by
  pointwise []

/-- A block with its leading axis dropped, at an index. -/
theorem dropped (y : Vec Ideal S1x32x768 .f32) (k : Fin 32) (x : Fin 768) :
    shapeCast S32x768 y shapeCasts_S1x32x768_S32x768 (ix2 k x) = y (ix3 0 k x) := by
  pointwise []

/-- The block of batch row `t`, at an index. -/
theorem loaded (x0 : Vec Ideal S32x32x768 .f32) (t : Nat) (s : Fin 32) (ht : s.val = t)
    (inb : ∀ a, (![t, 0, 0] : Fin 3 → Nat) a + S1x32x768.size a ≤ S32x32x768.size a) (k : Fin 32) (x : Fin 768) :
    View.ld x0 (Rect.unit (s := S32x32x768) ![t, 0, 0] S1x32x768.size inb) (ix3 0 k x : S1x32x768.Idx) = x0 (ix3 s k x) := by
  refine View.ld_unit_apply_of x0 _ _ inb _ _ fun a => ?_
  match a with
  | ⟨0, _⟩ => exact ht
  | ⟨1, _⟩ => exact (Nat.zero_add _).symm
  | ⟨2, _⟩ => exact (Nat.zero_add _).symm

/-- Column `t` of the transposed prompts, at an index. -/
theorem sliced (v : FVec Ideal S768x32 .f32) (t : Nat) (s : Fin 32) (ht : s.val = t) (hs : S768x32.Slices ![0, t] S768x1)
    (x : Fin 768) : extractStridedSlice S768x1 ![0, t] v hs (ix2 x (0 : Fin 1)) = v (ix2 x s) := by
  refine extractStridedSlice_apply _ _ _ _ _ fun a => ?_
  match a with
  | ⟨0, _⟩ => exact (Nat.zero_add _).symm
  | ⟨1, _⟩ => exact ht

/-- One column of scores: the block of batch row `t` times that row's prompt. -/
theorem column (x0 : Vec Ideal S32x32x768 .f32) (x1 : Vec Ideal S32x768 .f32) (t : Nat) (s : Fin 32) (ht : s.val = t)
    (hs : S768x32.Slices ![0, t] S768x1)
    (inb : ∀ a, (![t, 0, 0] : Fin 3 → Nat) a + S1x32x768.size a ≤ S32x32x768.size a) (j : S32x1.Idx) (k : Fin 32)
    (hk : (j 0).val = k.val) (h1 : (j 1).val = 0) :
    matmul (φ₁ := .f32) (φ₂ := .f32) dot_S32x768_S768x1_S32x1_1_0_0_1_n_n none
        (shapeCast (α := EReal) S32x768 (View.ld x0 (Rect.unit (s := S32x32x768) ![t, 0, 0] S1x32x768.size inb)) shapeCasts_S1x32x768_S32x768)
        (extractStridedSlice S768x1 ![0, t] (k0_pay93 (F := Ideal) x0 x1) hs) (constant S32x1 .f32 0x00000000#32) j
      = score (rowsOf x0 s) (promptOf x1 s) k := by
  obtain rfl : j = (ix2 k (0 : Fin 1) : S32x1.Idx) := by
    idx_vars j
    exact congrArg₂ ix2 (Fin.ext hk) (Fin.ext h1)
  unfold score
  generalize hv : k0_pay93 (F := Ideal) x0 x1 = v
  rw [product]
  refine Finset.sum_congr rfl fun x _ => ?_
  rw [dropped, loaded x0 t s ht inb k x]
  rw [sliced v t s ht hs x, ← hv, turned_load x0 x1 x s]

/-- The kernel's weights are the softmax of the scores. -/
theorem weights_kernel (x0 : Vec Ideal S32x32x768 .f32) (x1 : Vec Ideal S32x768 .f32) (s k : Fin 32) :
    k0_pay123 x0 x1 (ix2 k s) = weights (rowsOf x0 s) (promptOf x1 s) k := by
  unfold k0_pay123 k0_pay34
  dsimp only
  generalize hZ : concatenate S32x32 1 _ _ = Z
  have h : ∀ k s, Z (ix2 k s) = score (rowsOf x0 s) (promptOf x1 s) k := by
    intro k s
    rw [← hZ]
    concat_tiles i h
    all_goals exact column x0 x1 _ s h _ _ i k h0 h1
  clear hZ
  pointwise []
  simp only [h, show Ideal.ofBits FTy.f32 4286578688#32 = ⊥ from by simp [Ideal.ofBits, Ideal.ieee]]
  rfl

/-- The mask the region builds holds where a position comes before another by weight. -/
theorem mask (x0 : Vec Ideal S32x32x768 .f32) (x1 : Vec Ideal S32x768 .f32) : Mask (k0_pay125 x0 x1) (k0_pay123 x0 x1) := by
  intro s i j
  unfold k0_pay125 k0_pay123 k0_pay36
  dsimp only
  generalize k0_pay34 (F := Ideal) _ _ _ _ _ _ _ _ _ _ _ _ _ _ _ _ _ _ _ _ _ _ _ _ _ _ _ _ _ _ _ _ _ = A
  pointwise []
  have h : ∀ i : Fin 32, ∑ x, A (ix2 x s) * k0_pay35 (F := Ideal) (ix2 x i) = A (ix2 i s) := fun i => by
    simp only [eye32]
    exact sum_oneHot_right _ i (fun _ => eq_comm) fun x => A (ix2 x s)
  rw [h i, h j, cmpi_slt_ofNat _ _ (by omega) (by omega)]
  have hb : ∀ a b c : Bool, IntOp.ori (BitVec.ofBool a) (IntOp.andi (BitVec.ofBool b) (BitVec.ofBool c)) = BitVec.ofBool (a || (b && c)) := by
    decide
  rw [hb]
  congr 2

end Cert.KernelWeights

end
-- ==== Proof.KernelBlock.lean ====
/-
  What the region writes: the chosen rows of every batch row, scaled to unit length, and the number of places kept.
-/
module

public import proofs.«01_k».proof.Proof.KernelWeights

@[expose] public section

set_option maxRecDepth 16384
set_option maxHeartbeats 2000000

noncomputable section

namespace Cert.KernelBlock
open Idealize.ShloMosaic Cert.KernelIdeal Cert.KernelIdeal.Gen Cert.Ranking Cert.Indicators Cert.Choice Cert.KernelChoice
open Cert.Weights Cert.KernelWeights

/-- The last step of every batch row: the rows of `M` scaled to unit length, under a leading axis of one. -/
def scaled (M : FVec Ideal S16x768 .f32) : FVec Ideal S1x16x768 .f32 :=
  shapeCast S1x16x768
    (divf M (broadcastTo S16x768
      (maximumf
        (sqrt (shapeCast S16x1 (multiReduction .add [1] S16 (mulf M M) 0x00000000#32 reduces_S16x768_S16 (.inl rfl) rfl) shapeCasts_S16_S16x1))
        (broadcast S16x1 (Scalar.ofBits .f32 0x2B8CBCCC#32)))
      broadcasts_S16x1_S16x768))
    shapeCasts_S16x768_S1x16x768

/-- Read at an index: the row's entry over its length. -/
theorem scaled_apply (M : FVec Ideal S16x768 .f32) (k : Fin 16) (c : Fin 768) :
    scaled M (ix3 0 k c) = unit (fun x => M (ix2 k x)) c := by
  pointwise [scaled]
  rfl

/-- A product of one-hot rows with a block, at an index. -/
theorem product16 (Y : FVec Ideal S16x32 .f32) (w : FVec Ideal S32x768 .f32) (k : Fin 16) (c : Fin 768) :
    matmul dot_S16x32_S32x768_S16x768_1_0_0_1_n_n (some .fp32) Y w (constant S16x768 .f32 0x00000000#32) (ix2 k c)
      = ∑ x : Fin 32, Y (ix2 k x) * w (ix2 x c) := by
  pointwise []

/-- One batch row of one-hot rows with its leading axis dropped, at an index. -/
theorem dropped16 (y : FVec Ideal S1x16x32 .f32) (k : Fin 16) (x : Fin 32) :
    shapeCast S16x32 y shapeCasts_S1x16x32_S16x32 (ix2 k x) = y (ix3 0 k x) := by
  pointwise []

/-- Batch row `t` of the one-hot rows, at an index. -/
theorem sliced16 (G : FVec Ideal S32x16x32 .f32) (t : Nat) (s : Fin 32) (ht : s.val = t)
    (hs : S32x16x32.Slices ![t, 0, 0] S1x16x32) (k : Fin 16) (x : Fin 32) :
    extractStridedSlice S1x16x32 ![t, 0, 0] G hs (ix3 (0 : Fin 1) k x) = G (ix3 s k x) := by
  refine extractStridedSlice_apply _ _ _ _ _ fun a => ?_
  match a with
  | ⟨0, _⟩ => exact ht
  | ⟨1, _⟩ => exact (Nat.zero_add _).symm
  | ⟨2, _⟩ => exact (Nat.zero_add _).symm

/-- The rows picked by one-hot rows out of batch row `t`. -/
def picked (x0 : Vec Ideal S32x32x768 .f32) (G : FVec Ideal S32x16x32 .f32) (t : Nat)
    (hs : S32x16x32.Slices ![t, 0, 0] S1x16x32)
    (inb : ∀ a, (![t, 0, 0] : Fin 3 → Nat) a + S1x32x768.size a ≤ S32x32x768.size a) : FVec Ideal S16x768 .f32 :=
  matmul (φ₁ := .f32) (φ₂ := .f32) dot_S16x32_S32x768_S16x768_1_0_0_1_n_n (some .fp32)
    (shapeCast S16x32 (extractStridedSlice S1x16x32 ![t, 0, 0] G hs) shapeCasts_S1x16x32_S16x32)
    (shapeCast (α := EReal) S32x768 (View.ld x0 (Rect.unit (s := S32x32x768) ![t, 0, 0] S1x32x768.size inb)) shapeCasts_S1x32x768_S32x768)
    (constant S16x768 .f32 0x00000000#32)

/-- Read at an index: the entry of the row picked. -/
theorem picked_apply (x0 : Vec Ideal S32x32x768 .f32) (G : FVec Ideal S32x16x32 .f32) (t : Nat) (s : Fin 32) (ht : s.val = t)
    (hs : S32x16x32.Slices ![t, 0, 0] S1x16x32)
    (inb : ∀ a, (![t, 0, 0] : Fin 3 → Nat) a + S1x32x768.size a ≤ S32x32x768.size a) (r : Fin 16 → Fin 32)
    (hG : ∀ k x, G (ix3 s k x) = if x = r k then (1 : EReal) else 0) (k : Fin 16) (c : Fin 768) :
    picked x0 G t hs inb (ix2 k c) = rowsOf x0 s (r k) c := by
  unfold picked
  rw [product16]
  refine Eq.trans (Finset.sum_congr rfl fun x _ => ?_) (sum_oneHot (fun x => x = r k) (r k) (fun _ => Iff.rfl) fun x => x0 (ix3 s x c))
  rw [dropped, loaded x0 t s ht inb x c, dropped16, sliced16 G t s ht hs k x, hG k x]

/-- What is written for one batch row. -/
theorem piece (x0 : Vec Ideal S32x32x768 .f32) (G : FVec Ideal S32x16x32 .f32) (r : Fin 32 → Fin 16 → Fin 32)
    (hG : ∀ s k x, G (ix3 s k x) = if x = r s k then (1 : EReal) else 0) (t : Nat)
    (hs : S32x16x32.Slices ![t, 0, 0] S1x16x32)
    (inb : ∀ a, (![t, 0, 0] : Fin 3 → Nat) a + S1x32x768.size a ≤ S32x32x768.size a)
    (i : S1x16x768.Idx) (s : Fin 32) (k : Fin 16) (c : Fin 768)
    (h0 : s.val = t + (i 0).val) (h1 : k.val = (i 1).val) (h2 : c.val = (i 2).val) (hi : (i 0).val < 1) :
    scaled (picked x0 G t hs inb) i = unit (rowsOf x0 s (r s k)) c := by
  have h0' : s.val = t := by omega
  obtain rfl : i = (ix3 (0 : Fin 1) k c : S1x16x768.Idx) := by
    funext a
    match a with
    | ⟨0, _⟩ => exact Fin.ext (Nat.lt_one_iff.1 hi)
    | ⟨1, _⟩ => exact Fin.ext h1.symm
    | ⟨2, _⟩ => exact Fin.ext h2.symm
  rw [scaled_apply]
  simp only [picked_apply x0 G t s h0' hs inb (r s) (hG s)]

/-- The rows the region writes. -/
theorem rows (x0 : Vec Ideal S32x32x768 .f32) (x1 : Vec Ideal S32x768 .f32) (s : Fin 32) (k : Fin 16) (c : Fin 768) :
    out0_2 x0 x1 (ix3 s k c)
      = unit (rowsOf x0 s (chosen (weights (rowsOf x0 s) (promptOf x1 s)) k)) c := by
  have hG : ∀ s k x, k0_pay128 (F := Ideal) x0 x1 (ix3 s k x) = if x = chosen (weights (rowsOf x0 s) (promptOf x1 s)) k then (1 : EReal) else 0 := by
    intro s k x
    rw [show weights (rowsOf x0 s) (promptOf x1 s) = col (k0_pay123 x0 x1) s from funext fun i => (weights_kernel x0 x1 s i).symm]
    exact chosen_float (mask x0 x1) s k x
  unfold out0_2
  canon_tiles x h
  all_goals refine piece x0 (k0_pay128 (F := Ideal) x0 x1) _ hG _ _ _ x s k c ?_ h1 h2 x0_lt
  all_goals first | exact h0 | exact h0.trans (Nat.zero_add _).symm

/-- The number of places kept. -/
theorem kept_out (x0 : Vec Ideal S32x32x768 .f32) (x1 : Vec Ideal S32x768 .f32) (s : Fin 32) (l : Fin 128) :
    out0_3 x0 x1 (ix2 s l) = ((kept (weights (rowsOf x0 s) (promptOf x1 s)) : Nat) : EReal) := by
  rw [show weights (rowsOf x0 s) (promptOf x1 s) = col (k0_pay123 x0 x1) s from funext fun i => (weights_kernel x0 x1 s i).symm]
  rw [← kept_float]
  unfold out0_3
  canon_tiles x h
  have hx : k0_pay2 (k0_pay37 (k0_pay123 x0 x1) (k0_pay124 x0 x1)) (ix2 s l) = k0_pay37 (k0_pay123 x0 x1) (k0_pay124 x0 x1) (ix2 s 0) := by
    generalize k0_pay37 (k0_pay123 x0 x1) (k0_pay124 x0 x1) = y
    pointwise [k0_pay2]
  obtain rfl : x = (ix2 s l : S32x128.Idx) := by
    funext a
    match a with
    | ⟨0, _⟩ => exact Fin.ext h0.symm
    | ⟨1, _⟩ => exact Fin.ext h1.symm
  exact hx

end Cert.KernelBlock

end
-- ==== Proof.RefWeights.lean ====
/-
  The reference's weights, read at an index: the softmax of the scores of the latent rows against the prompt.
-/
module

public import proofs.«01_k».proof.Proof.Weights
public import proofs.«01_k».proof.Proof.Gen.ReferenceIdeal.Read

@[expose] public section

set_option maxRecDepth 16384
set_option maxHeartbeats 2000000

noncomputable section

namespace Cert.RefWeights
open Idealize.ShloMosaic Cert.ReferenceIdeal Cert.ReferenceIdeal.Read Cert.Weights

variable (x0 : (⟨S32x768, .f32⟩ : BufTy).Contents (Elt Ideal)) (x1 : (⟨S32x256x1024, .f32⟩ : BufTy).Contents (Elt Ideal)) (x2 : (⟨S1x32x1024, .f32⟩ : BufTy).Contents (Elt Ideal)) (x3 : (⟨S2x1024x1024, .f32⟩ : BufTy).Contents (Elt Ideal)) (x4 : (⟨S2x1024, .f32⟩ : BufTy).Contents (Elt Ideal)) (x5 : (⟨S2x1024x2048, .f32⟩ : BufTy).Contents (Elt Ideal)) (x6 : (⟨S2x2048, .f32⟩ : BufTy).Contents (Elt Ideal)) (x7 : (⟨S2x1024x1024, .f32⟩ : BufTy).Contents (Elt Ideal)) (x8 x9 x10 x11 x12 : (⟨S2x1024, .f32⟩ : BufTy).Contents (Elt Ideal)) (x13 : (⟨S2x1024x2048, .f32⟩ : BufTy).Contents (Elt Ideal)) (x14 : (⟨S2x2048, .f32⟩ : BufTy).Contents (Elt Ideal)) (x15 : (⟨S2x2048x1024, .f32⟩ : BufTy).Contents (Elt Ideal)) (x16 : (⟨S2x1024, .f32⟩ : BufTy).Contents (Elt Ideal)) (x17 : (⟨S1024x768, .f32⟩ : BufTy).Contents (Elt Ideal)) (x18 : (⟨S768, .f32⟩ : BufTy).Contents (Elt Ideal))

/-- The reference's weights are the softmax of the scores. -/
theorem weights_reference (s k : Fin 32) :
    val_main_v272 (F := Ideal) x0 x1 x2 x3 x4 x5 x6 x7 x8 x9 x10 x11 x12 x13 x14 x15 x16 x17 x18 (ix2 s k)
      = weights (fun k x => val_main_v258 (F := Ideal) x1 x2 x3 x4 x5 x6 x7 x8 x9 x10 x11 x12 x13 x14 x15 x16 x17 x18 (ix3 s k x))
          (fun x => x0 (ix2 s x)) k := by
  have h : ∀ k, val_main_v261 (F := Ideal) x0 x1 x2 x3 x4 x5 x6 x7 x8 x9 x10 x11 x12 x13 x14 x15 x16 x17 x18 (ix2 s k)
      = score (fun k x => val_main_v258 (F := Ideal) x1 x2 x3 x4 x5 x6 x7 x8 x9 x10 x11 x12 x13 x14 x15 x16 x17 x18 (ix3 s k x)) (fun x => x0 (ix2 s x)) k := by
    intro k
    pointwise [val_main_v261, val_main_v260, val_main_v259]
    rfl
  pointwise [val_main_v272, val_main_v271, val_main_v270, val_main_v269, val_main_cst_31, val_main_v268, val_main_v267, val_main_v266, val_main_v265, val_main_v264, val_main_v263, val_main_cst_30, val_main_v262, val_main_cst_29]
  have hb : Ideal.ofBits .f32 4286578688#32 = ⊥ := by simp [Ideal.ofBits, Ideal.ieee]
  simp only [h, hb, bot_le, max_eq_right]
  rfl

end Cert.RefWeights

end
-- ==== Proof.RefSorts.lean ====
/-
  The reference's two sorts, read at an index: the positions in the order of decreasing weight, and the places in the
  order of increasing key.
-/
module

public import proofs.«01_k».proof.Proof.Choice
public import proofs.«01_k».proof.Proof.Indicators
public import proofs.«01_k».proof.ReferenceIdeal
public import Idealize.ShloMosaic.Lib.SortFacts
public import Idealize.ShloMosaic.Lib.Pointwise

@[expose] public section

set_option maxRecDepth 16384
set_option maxHeartbeats 1000000

noncomputable section

namespace Cert.RefSorts
open Idealize.ShloMosaic Cert.ReferenceIdeal Cert.Ranking Cert.Choice Cert.Indicators

/-- A sort of the rows of a table with its positions: the second result lists, in each row, the sorted positions. -/
theorem sorted_positions {α : Type} {n p : Nat} (cmp : α × BitVec 32 → α × BitVec 32 → BitVec 1)
    (x : (⟨2, ![n, p]⟩ : Shape).Idx → α) (y : (⟨2, ![n, p]⟩ : Shape).Idx → BitVec 32) (s : Fin n) (k : Fin p)
    (B : Fin p → Fin p → Bool) (hy : ∀ j, y (ix2 s j) = BitVec.ofNat 32 j.val)
    (hB : ∀ i j, (cmp (x (ix2 s i), y (ix2 s i)) (x (ix2 s j), y (ix2 s j)) == 1#1) = B i j) :
    (Host.sort2 ⟨2, ![n, p]⟩ 1 cmp x y).2 (ix2 s k) = BitVec.ofNat 32 (sortedFrom B k).val := by
  have ha : ∀ i : Fin p, (ix2 s k : (⟨2, ![n, p]⟩ : Shape).Idx).along (1 : Fin 2) i = ix2 s i := by
    intro i
    funext a
    match a with
    | ⟨0, _⟩ => rfl
    | ⟨1, _⟩ => rfl
  unfold Host.sort2
  rw [dif_pos (by decide : (1 : Nat) < 2)]
  have hb : (fun i j : Fin p => cmp (x ((ix2 s k : (⟨2, ![n, p]⟩ : Shape).Idx).along (1 : Fin 2) i), y ((ix2 s k : (⟨2, ![n, p]⟩ : Shape).Idx).along (1 : Fin 2) i))
      (x ((ix2 s k : (⟨2, ![n, p]⟩ : Shape).Idx).along (1 : Fin 2) j), y ((ix2 s k : (⟨2, ![n, p]⟩ : Shape).Idx).along (1 : Fin 2) j)) == 1#1) = B := by
    funext i j
    rw [ha, ha]
    exact hB i j
  have he : y ((ix2 s k : (⟨2, ![n, p]⟩ : Shape).Idx).along (1 : Fin 2) (sortedFrom B k)) = BitVec.ofNat 32 (sortedFrom B k).val :=
    (congrArg y (ha (sortedFrom B k))).trans (hy _)
  rw [← he, ← hb]
  rfl

/-- The reference's comparison of two numbers: there is no number that is not one, and zero has one sign. -/
theorem compare_float (l r : EReal × BitVec 32) :
    comparator_f32_i32_d1 (F := Ideal) l r = BitVec.ofBool (decide (l.1 < r.1)) := by
  have hz : ∀ x : EReal, Scalar.select (FloatOps.cmpf (F := Ideal) (φ := .f32) .oeq x (FloatOps.ofBits (F := Ideal) .f32 0x00000000#32))
      (FloatOps.ofBits (F := Ideal) .f32 0x00000000#32) x = x := by
    intro x
    have h0 : FloatOps.ofBits (F := Ideal) .f32 0x00000000#32 = (0 : EReal) := by
      show Ideal.ofBits .f32 _ = _
      simp [Ideal.ofBits, Ideal.ieee]
    rw [h0]
    by_cases h : x = 0
    · subst h; unfold Scalar.select; split <;> rfl
    · have : FloatOps.cmpf (F := Ideal) (φ := .f32) .oeq x (0 : EReal) = 0#1 := by
        show BitVec.ofBool _ = _
        simp [h]
      rw [this]; rfl
  have hn : ∀ x y : EReal, Scalar.select (FloatOps.cmpf (F := Ideal) (φ := .f32) .une x x) y x = x := by
    intro x y
    have : FloatOps.cmpf (F := Ideal) (φ := .f32) .une x x = 0#1 := by
      show BitVec.ofBool _ = _
      simp
    rw [this]; rfl
  unfold comparator_f32_i32_d1
  dsimp only
  rw [hz, hz, hn, hn]
  rfl

/-- The positions in the order of decreasing weight. -/
theorem order_words (Z : S32x32.Idx → EReal) (y : S32x32.Idx → BitVec 32) (a : Fin 32 → EReal) (s k : Fin 32)
    (hZ : ∀ j, Z (ix2 s j) = - a j) (hy : ∀ j, y (ix2 s j) = BitVec.ofNat 32 j.val) :
    (Host.sort2 S32x32 1 (comparator_f32_i32_d1 (F := Ideal)) Z y).2 (ix2 s k) = BitVec.ofNat 32 (order a k).val := by
  rw [order, heavier, ← sortedFrom_keyed]
  refine sorted_positions _ _ _ s k _ hy fun i j => ?_
  rw [compare_float, hZ, hZ]
  simp only [EReal.neg_lt_neg_iff]
  by_cases h : a j < a i <;> simp [h]

/-- The places in the order of increasing key. -/
theorem taken_words (K : S32x16.Idx → BitVec 32) (y : S32x16.Idx → BitVec 32) (a : Fin 32 → EReal) (s : Fin 32) (k : Fin 16)
    (hK : ∀ j, K (ix2 s j) = BitVec.ofNat 32 (key a j)) (hy : ∀ j, y (ix2 s j) = BitVec.ofNat 32 j.val) :
    (Host.sort2 S32x16 1 comparator_i32_i32_d1 K y).2 (ix2 s k) = BitVec.ofNat 32 (taken a k).val := by
  have hk : ∀ j, key a j < 2147483648 := fun j => by unfold key; split <;> omega
  rw [taken, smaller, ← sortedFrom_keyed]
  refine sorted_positions _ _ _ s k _ hy fun i j => ?_
  rw [hK, hK]
  unfold comparator_i32_i32_d1
  simp only []
  rw [cmpi_slt_ofNat _ _ (hk i) (hk j)]
  by_cases h : key a i < key a j <;> simp [h]

end Cert.RefSorts

end
-- ==== Proof.RefGathers.lean ====
/-
  The reference's two gathers, read at an index: each takes, in every row, the entry its index word names.
-/
module

public import proofs.«01_k».proof.ReferenceIdeal
public import proofs.«01_k».proof.Proof.Indicators
public import Idealize.ShloMosaic.Lib.Pointwise

@[expose] public section

set_option maxRecDepth 16384
set_option maxHeartbeats 1000000

noncomputable section

namespace Cert.RefGathers
open Idealize.ShloMosaic Cert.ReferenceIdeal Cert.Indicators

variable [Facts₀]

/-- The places gathered from a row of positions. -/
theorem place_gather (x : S32x16.Idx → BitVec 32) (idx : IVec S32x16x1 32) (s : Fin 32) (k p : Fin 16)
    (h : idx (ix3 s k (0 : Fin 1)) = BitVec.ofNat 32 p.val) :
    Host.gather gather_S32x16_S32x16x1_S32x16_n_1_0_0_1_2_11 x idx (ix2 s k) = x (ix2 s p) := by
  have hb : gather_S32x16_S32x16x1_S32x16_n_1_0_0_1_2_11.batchDims = [0, 1] := by
    show S32x16.kept [] = _
    decide
  have hk : gather_S32x16_S32x16x1_S32x16_n_1_0_0_1_2_11.siKept = [0, 1] := by
    show (List.finRange 3).filter (·.val ≠ 2) = _
    decide
  have hs : gather_S32x16_S32x16x1_S32x16_n_1_0_0_1_2_11.sKept = [] := by
    show S32x16.kept [1, 0] = _
    decide
  have c0 : ∀ h, (gather_S32x16_S32x16x1_S32x16_n_1_0_0_1_2_11.siCoord (ix2 s k) 0 h).val = s.val := by
    intro h
    simp only [GatherDims.siCoord, hb, hk]
    rfl
  have c1 : ∀ h, (gather_S32x16_S32x16x1_S32x16_n_1_0_0_1_2_11.siCoord (ix2 s k) 1 h).val = k.val := by
    intro h
    simp only [GatherDims.siCoord, hb, hk]
    rfl
  have hi : ∀ c, gather_S32x16_S32x16x1_S32x16_n_1_0_0_1_2_11.siIdx (ix2 s k) c = ix3 s k (0 : Fin 1) := by
    intro c
    funext b
    apply Fin.ext
    match b with
    | ⟨0, _⟩ => exact c0 (by rw [hk]; decide)
    | ⟨1, _⟩ => exact c1 (by rw [hk]; decide)
    | ⟨2, _⟩ => exact Nat.lt_one_iff.1 c.isLt
  unfold Host.gather
  refine congrArg x (funext fun a => Fin.ext ?_)
  match a with
  | ⟨0, _⟩ =>
    show GatherDims.start _ _ _ 0 + GatherDims.batchCoord _ _ 0 + GatherDims.offCoord _ _ 0 = s.val
    rw [GatherDims.offCoord_eq_zero _ _ _ (by rw [hs]; exact List.not_mem_nil), GatherDims.start_batching _ _ _ _ (by exact List.mem_singleton.2 rfl)]
    unfold GatherDims.batchCoord
    rw [dif_pos (by exact List.mem_singleton.2 rfl), Nat.zero_add]
    exact c0 (by rw [hk]; decide)
  | ⟨1, _⟩ =>
    show GatherDims.start _ _ _ 1 + GatherDims.batchCoord _ _ 1 + GatherDims.offCoord _ _ 1 = p.val
    rw [GatherDims.offCoord_eq_zero _ _ _ (by rw [hs]; exact List.not_mem_nil), GatherDims.batchCoord_eq_zero _ _ _ (by show (1 : Fin 2) ∉ [0]; decide)]
    unfold GatherDims.start
    rw [dif_pos (by exact List.mem_singleton.2 rfl), hi, h, toInt_ofNat _ (by omega)]
    show min ((p.val : Int)).toNat 15 = p.val
    have := p.isLt
    omega

/-- The latent rows gathered. -/
theorem row_gather (x : S32x32x768.Idx → EReal) (idx : IVec S32x16x1 32) (s : Fin 32) (k : Fin 16) (c : Fin 768) (p : Fin 32)
    (h : idx (ix3 s k (0 : Fin 1)) = BitVec.ofNat 32 p.val) :
    Host.gather gather_S32x32x768_S32x16x1_S32x16x768_2_1_0_0_1_2_11768 x idx (ix3 s k c) = x (ix3 s p c) := by
  have hb : gather_S32x32x768_S32x16x1_S32x16x768_2_1_0_0_1_2_11768.batchDims = [0, 1] := by
    show S32x16x768.kept [2] = _
    decide
  have hk : gather_S32x32x768_S32x16x1_S32x16x768_2_1_0_0_1_2_11768.siKept = [0, 1] := by
    show (List.finRange 3).filter (·.val ≠ 2) = _
    decide
  have hs : gather_S32x32x768_S32x16x1_S32x16x768_2_1_0_0_1_2_11768.sKept = [2] := by
    show S32x32x768.kept [1, 0] = _
    decide
  have c0 : ∀ h, (gather_S32x32x768_S32x16x1_S32x16x768_2_1_0_0_1_2_11768.siCoord (ix3 s k c) 0 h).val = s.val := by
    intro h
    simp only [GatherDims.siCoord, hb, hk]
    rfl
  have c1 : ∀ h, (gather_S32x32x768_S32x16x1_S32x16x768_2_1_0_0_1_2_11768.siCoord (ix3 s k c) 1 h).val = k.val := by
    intro h
    simp only [GatherDims.siCoord, hb, hk]
    rfl
  have hi : ∀ z, gather_S32x32x768_S32x16x1_S32x16x768_2_1_0_0_1_2_11768.siIdx (ix3 s k c) z = ix3 s k (0 : Fin 1) := by
    intro z
    funext b
    apply Fin.ext
    match b with
    | ⟨0, _⟩ => exact c0 (by rw [hk]; decide)
    | ⟨1, _⟩ => exact c1 (by rw [hk]; decide)
    | ⟨2, _⟩ => exact Nat.lt_one_iff.1 z.isLt
  unfold Host.gather
  refine congrArg x (funext fun a => Fin.ext ?_)
  match a with
  | ⟨0, _⟩ =>
    show GatherDims.start _ _ _ 0 + GatherDims.batchCoord _ _ 0 + GatherDims.offCoord _ _ 0 = s.val
    rw [GatherDims.offCoord_eq_zero _ _ _ (by rw [hs]; show (0 : Fin 3) ∉ [2]; decide), GatherDims.start_batching _ _ _ _ (by exact List.mem_singleton.2 rfl)]
    unfold GatherDims.batchCoord
    rw [dif_pos (by exact List.mem_singleton.2 rfl), Nat.zero_add]
    exact c0 (by rw [hk]; decide)
  | ⟨1, _⟩ =>
    show GatherDims.start _ _ _ 1 + GatherDims.batchCoord _ _ 1 + GatherDims.offCoord _ _ 1 = p.val
    rw [GatherDims.offCoord_eq_zero _ _ _ (by rw [hs]; show (1 : Fin 3) ∉ [2]; decide), GatherDims.batchCoord_eq_zero _ _ _ (by show (1 : Fin 3) ∉ [0]; decide)]
    unfold GatherDims.start
    rw [dif_pos (by exact List.mem_singleton.2 rfl), hi, h, toInt_ofNat _ (by omega)]
    show min ((p.val : Int)).toNat 31 = p.val
    have := p.isLt
    omega
  | ⟨2, _⟩ =>
    show GatherDims.start _ _ _ 2 + GatherDims.batchCoord _ _ 2 + GatherDims.offCoord _ _ 2 = c.val
    rw [GatherDims.batchCoord_eq_zero _ _ _ (by show (2 : Fin 3) ∉ [0]; decide)]
    unfold GatherDims.start GatherDims.offCoord
    rw [dif_neg (by show (2 : Fin 3) ∉ [1]; decide), dif_pos (by rw [hs]; exact List.mem_singleton.2 rfl), Nat.zero_add]
    simp only [hs]
    rfl

end Cert.RefGathers

end
-- ==== Proof.RefTail.lean ====
/-
  The reference's choice, read at an index: how many places it keeps, the positions it chooses, and the two results.
-/
module

public import proofs.«01_k».proof.Proof.RefWeights
public import proofs.«01_k».proof.Proof.RefSorts
public import proofs.«01_k».proof.Proof.RefGathers
public import Idealize.ShloMosaic.Lib.IndicatorCount

@[expose] public section

set_option maxRecDepth 16384
set_option maxHeartbeats 2000000

noncomputable section

namespace Cert.RefTail
open Idealize.ShloMosaic Cert.ReferenceIdeal Cert.ReferenceIdeal.Read Cert.Weights Cert.Choice Cert.Indicators

/-- A word that is no negative number is not moved. -/
theorem nonnegative (n : Nat) (hn : n < 2147483648) (q : BitVec 32) :
    Scalar.select (IntOp.cmpi .slt (BitVec.ofNat 32 n) 0#32) q (BitVec.ofNat 32 n) = BitVec.ofNat 32 n := by
  rw [show (0#32 : BitVec 32) = BitVec.ofNat 32 0 from rfl, cmpi_slt_ofNat n 0 hn (by omega)]
  simp [Scalar.select]

/-- A word from zero to `m` is within the bounds. -/
theorem within (n m : Nat) (hm : m < 2147483648) (hn : n ≤ m) (f : Fin 1 → BitVec 32) (hf : f 0 = BitVec.ofNat 32 n) :
    Finset.fold IntOp.andi (1#1) (fun x => IntOp.andi (IntOp.cmpi .sge (f x) 0#32) (IntOp.cmpi .sle (f x) (BitVec.ofNat 32 m)))
      Finset.univ = 1#1 := by
  rw [show (Finset.univ : Finset (Fin 1)) = {0} from rfl, Finset.fold_singleton, hf]
  have h0 : IntOp.cmpi .sge (BitVec.ofNat 32 n) 0#32 = 1#1 := by
    show BitVec.ofBool ((0#32 : BitVec 32).sle (BitVec.ofNat 32 n)) = _
    rw [BitVec.sle, toInt_ofNat n (by omega)]
    simp
  have h1 : IntOp.cmpi .sle (BitVec.ofNat 32 n) (BitVec.ofNat 32 m) = 1#1 := by
    show BitVec.ofBool ((BitVec.ofNat 32 n).sle (BitVec.ofNat 32 m)) = _
    rw [BitVec.sle, toInt_ofNat n (by omega), toInt_ofNat m hm]
    simp [hn]
  rw [h0, h1]
  rfl

/-- The smaller of two small numbers. -/
theorem min_words (a b : Nat) (ha : a < 2147483648) (hb : b < 2147483648) :
    IntOp.minsi (BitVec.ofNat 32 a) (BitVec.ofNat 32 b) = BitVec.ofNat 32 (min a b) := by
  unfold IntOp.minsi
  rw [BitVec.slt, toInt_ofNat a ha, toInt_ofNat b hb]
  by_cases h : a < b
  · simp [h, min_eq_left h.le]
  · simp [h, min_eq_right (not_lt.1 h)]

/-- The larger of two small numbers. -/
theorem max_words (a b : Nat) (ha : a < 2147483648) (hb : b < 2147483648) :
    IntOp.maxsi (BitVec.ofNat 32 a) (BitVec.ofNat 32 b) = BitVec.ofNat 32 (max a b) := by
  unfold IntOp.maxsi
  rw [BitVec.slt, toInt_ofNat a ha, toInt_ofNat b hb]
  by_cases h : b < a
  · simp [h, max_eq_left h.le]
  · simp [h, max_eq_right (not_lt.1 h)]

/-- A condition as a word is one exactly where it holds. -/
theorem ofBool_one (b : Bool) : BitVec.ofBool b = 1#1 ↔ b = true := by cases b <;> decide

variable (x0 : (⟨S32x768, .f32⟩ : BufTy).Contents (Elt Ideal)) (x1 : (⟨S32x256x1024, .f32⟩ : BufTy).Contents (Elt Ideal)) (x2 : (⟨S1x32x1024, .f32⟩ : BufTy).Contents (Elt Ideal)) (x3 : (⟨S2x1024x1024, .f32⟩ : BufTy).Contents (Elt Ideal)) (x4 : (⟨S2x1024, .f32⟩ : BufTy).Contents (Elt Ideal)) (x5 : (⟨S2x1024x2048, .f32⟩ : BufTy).Contents (Elt Ideal)) (x6 : (⟨S2x2048, .f32⟩ : BufTy).Contents (Elt Ideal)) (x7 : (⟨S2x1024x1024, .f32⟩ : BufTy).Contents (Elt Ideal)) (x8 x9 x10 x11 x12 : (⟨S2x1024, .f32⟩ : BufTy).Contents (Elt Ideal)) (x13 : (⟨S2x1024x2048, .f32⟩ : BufTy).Contents (Elt Ideal)) (x14 : (⟨S2x2048, .f32⟩ : BufTy).Contents (Elt Ideal)) (x15 : (⟨S2x2048x1024, .f32⟩ : BufTy).Contents (Elt Ideal)) (x16 : (⟨S2x1024, .f32⟩ : BufTy).Contents (Elt Ideal)) (x17 : (⟨S1024x768, .f32⟩ : BufTy).Contents (Elt Ideal)) (x18 : (⟨S768, .f32⟩ : BufTy).Contents (Elt Ideal))

/-- The weights of sample `s`. -/
abbrev weightsOf (s : Fin 32) : Fin 32 → EReal :=
  weights (fun k x => val_main_v258 (F := Ideal) x1 x2 x3 x4 x5 x6 x7 x8 x9 x10 x11 x12 x13 x14 x15 x16 x17 x18 (ix3 s k x)) (fun x => x0 (ix2 s x))

/-- The reference's positions in the order of decreasing weight. -/
theorem order_reference (s k : Fin 32) :
    val_main_v274 (F := Ideal) x0 x1 x2 x3 x4 x5 x6 x7 x8 x9 x10 x11 x12 x13 x14 x15 x16 x17 x18 (ix2 s k) = BitVec.ofNat 32 (order (weightsOf x0 x1 x2 x3 x4 x5 x6 x7 x8 x9 x10 x11 x12 x13 x14 x15 x16 x17 x18 s) k).val :=
  RefSorts.order_words _ _ _ s k (fun j => congrArg Neg.neg (RefWeights.weights_reference x0 x1 x2 x3 x4 x5 x6 x7 x8 x9 x10 x11 x12 x13 x14 x15 x16 x17 x18 s j)) (fun _ => rfl)

/-- How many places the reference keeps. -/
theorem kept_reference (s : Fin 32) :
    val_main_v282 (F := Ideal) x0 x1 x2 x3 x4 x5 x6 x7 x8 x9 x10 x11 x12 x13 x14 x15 x16 x17 x18 (ix1 s) = BitVec.ofNat 32 (kept (weightsOf x0 x1 x2 x3 x4 x5 x6 x7 x8 x9 x10 x11 x12 x13 x14 x15 x16 x17 x18 s)) := by
  have h : val_main_v279 (F := Ideal) x0 x1 x2 x3 x4 x5 x6 x7 x8 x9 x10 x11 x12 x13 x14 x15 x16 x17 x18 (ix1 s)
      = BitVec.ofNat 32 (Finset.univ.filter fun j => Ideal.ofBits .f32 0x3CA3D70A#32 < weightsOf x0 x1 x2 x3 x4 x5 x6 x7 x8 x9 x10 x11 x12 x13 x14 x15 x16 x17 x18 s j).card := by
    pointwise [val_main_v279, val_main_c, val_main_v278, val_main_v277, val_main_v276, val_main_cst_32]
    simp only [RefWeights.weights_reference]
    refine (IndicatorCount.fold_addi_setWidth_eq_card _ _).trans ?_
    simp only [ofBool_one, decide_eq_true_eq]
  have hc : (Finset.univ.filter fun j => Ideal.ofBits .f32 0x3CA3D70A#32 < weightsOf x0 x1 x2 x3 x4 x5 x6 x7 x8 x9 x10 x11 x12 x13 x14 x15 x16 x17 x18 s j).card ≤ 32 :=
    (Finset.card_le_univ _).trans (by simp)
  pointwise [val_main_v282, val_main_call3_v4, val_main_call3_v3, val_main_c_35, val_main_call3_v2, val_main_call3_v1, val_main_call3_v0, val_main_c_34, val_main_v281, val_main_v280, val_main_c_33]
  rw [h, kept]
  generalize (Finset.univ.filter fun j => Ideal.ofBits .f32 0x3CA3D70A#32 < weightsOf x0 x1 x2 x3 x4 x5 x6 x7 x8 x9 x10 x11 x12 x13 x14 x15 x16 x17 x18 s j).card = n at hc
  show IntOp.minsi (BitVec.ofNat 32 16) (IntOp.maxsi (BitVec.ofNat 32 1) (IntOp.minsi (BitVec.ofNat 32 n) (BitVec.ofNat 32 16))) = _
  rw [min_words _ _ (by omega) (by omega), max_words _ _ (by omega) (by omega), min_words _ _ (by omega) (by omega)]

/-- The reference's keys. -/
theorem key_reference (s : Fin 32) (k : Fin 16) :
    val_main_v291 (F := Ideal) x0 x1 x2 x3 x4 x5 x6 x7 x8 x9 x10 x11 x12 x13 x14 x15 x16 x17 x18 (ix2 s k) = BitVec.ofNat 32 (key (weightsOf x0 x1 x2 x3 x4 x5 x6 x7 x8 x9 x10 x11 x12 x13 x14 x15 x16 x17 x18 s) k) := by
  pointwise [val_main_v291, val_main_v288, val_main_v286, val_main_v287, val_main_v285, val_main_v284, val_main_v283, val_main_v275, val_main_call4_v0, val_main_v290, val_main_v289, val_main_c_36]
  rw [kept_reference, order_reference, key]
  have hk : kept (weightsOf x0 x1 x2 x3 x4 x5 x6 x7 x8 x9 x10 x11 x12 x13 x14 x15 x16 x17 x18 s) ≤ 16 := Nat.min_le_left _ _
  rw [cmpi_slt_ofNat _ _ (by omega) (by omega)]
  by_cases h : k.val < kept (weightsOf x0 x1 x2 x3 x4 x5 x6 x7 x8 x9 x10 x11 x12 x13 x14 x15 x16 x17 x18 s)
  · rw [if_pos h, decide_eq_true h]
    rfl
  · rw [if_neg h, decide_eq_false h, BitVec.ofNat_add]
    rfl

/-- The places the reference takes. -/
theorem taken_reference (s : Fin 32) (k : Fin 16) :
    val_main_v292 (F := Ideal) x0 x1 x2 x3 x4 x5 x6 x7 x8 x9 x10 x11 x12 x13 x14 x15 x16 x17 x18 (ix2 s k) = BitVec.ofNat 32 (taken (weightsOf x0 x1 x2 x3 x4 x5 x6 x7 x8 x9 x10 x11 x12 x13 x14 x15 x16 x17 x18 s) k).val :=
  RefSorts.taken_words _ _ _ s k (fun j => key_reference x0 x1 x2 x3 x4 x5 x6 x7 x8 x9 x10 x11 x12 x13 x14 x15 x16 x17 x18 s j) (fun _ => rfl)

/-- The positions the reference chooses. -/
theorem chosen_reference (s : Fin 32) (k : Fin 16) :
    val_main_v293 (F := Ideal) x0 x1 x2 x3 x4 x5 x6 x7 x8 x9 x10 x11 x12 x13 x14 x15 x16 x17 x18 (ix2 s k) = BitVec.ofNat 32 (chosen (weightsOf x0 x1 x2 x3 x4 x5 x6 x7 x8 x9 x10 x11 x12 x13 x14 x15 x16 x17 x18 s) k).val := by
  have h5 : val_main_call6_v5 (F := Ideal) x0 x1 x2 x3 x4 x5 x6 x7 x8 x9 x10 x11 x12 x13 x14 x15 x16 x17 x18 (ix3 s k (0 : Fin 1)) = BitVec.ofNat 32 (taken (weightsOf x0 x1 x2 x3 x4 x5 x6 x7 x8 x9 x10 x11 x12 x13 x14 x15 x16 x17 x18 s) k).val := by
    pointwise [val_main_call6_v5, val_main_call6_v4, val_main_call6_v3, val_main_call6_v2, val_main_call6_v1, val_main_call6_v0, val_main_call6_c, val_main_call6_c_0]
    rw [taken_reference]
    exact nonnegative _ (by omega) _
  have h12 : val_main_call6_v12 (F := Ideal) x0 x1 x2 x3 x4 x5 x6 x7 x8 x9 x10 x11 x12 x13 x14 x15 x16 x17 x18 (ix2 s k) = 1#1 := by
    pointwise [val_main_call6_v12, val_main_call6_c_3, val_main_call6_v11, val_main_call6_v10, val_main_call6_v9, val_main_call6_v8, val_main_call6_c_1, val_main_call6_v7, val_main_call6_v6, val_main_call6_c_2]
    exact within _ 15 (by omega) (by omega) (fun x => val_main_call6_v5 (F := Ideal) x0 x1 x2 x3 x4 x5 x6 x7 x8 x9 x10 x11 x12 x13 x14 x15 x16 x17 x18 (ix3 s k x)) h5
  have h13 : val_main_call6_v13 (F := Ideal) x0 x1 x2 x3 x4 x5 x6 x7 x8 x9 x10 x11 x12 x13 x14 x15 x16 x17 x18 (ix2 s k) = BitVec.ofNat 32 (chosen (weightsOf x0 x1 x2 x3 x4 x5 x6 x7 x8 x9 x10 x11 x12 x13 x14 x15 x16 x17 x18 s) k).val := by
    refine (RefGathers.place_gather _ _ s k (taken (weightsOf x0 x1 x2 x3 x4 x5 x6 x7 x8 x9 x10 x11 x12 x13 x14 x15 x16 x17 x18 s) k) h5).trans ?_
    pointwise [val_main_v275]
    exact order_reference x0 x1 x2 x3 x4 x5 x6 x7 x8 x9 x10 x11 x12 x13 x14 x15 x16 x17 x18 s _
  show Scalar.select (val_main_call6_v12 (F := Ideal) x0 x1 x2 x3 x4 x5 x6 x7 x8 x9 x10 x11 x12 x13 x14 x15 x16 x17 x18 (ix2 s k)) (val_main_call6_v13 (F := Ideal) x0 x1 x2 x3 x4 x5 x6 x7 x8 x9 x10 x11 x12 x13 x14 x15 x16 x17 x18 (ix2 s k)) _ = _
  rw [h12, h13]
  rfl

/-- The rows the reference chooses. -/
theorem rows_reference (s : Fin 32) (k : Fin 16) (c : Fin 768) :
    val_main_v295 (F := Ideal) x0 x1 x2 x3 x4 x5 x6 x7 x8 x9 x10 x11 x12 x13 x14 x15 x16 x17 x18 (ix3 s k c) = val_main_v258 (F := Ideal) x1 x2 x3 x4 x5 x6 x7 x8 x9 x10 x11 x12 x13 x14 x15 x16 x17 x18 (ix3 s (chosen (weightsOf x0 x1 x2 x3 x4 x5 x6 x7 x8 x9 x10 x11 x12 x13 x14 x15 x16 x17 x18 s) k) c) := by
  have h4 : val_main_call7_v4 (F := Ideal) x0 x1 x2 x3 x4 x5 x6 x7 x8 x9 x10 x11 x12 x13 x14 x15 x16 x17 x18 (ix3 s k (0 : Fin 1)) = BitVec.ofNat 32 (chosen (weightsOf x0 x1 x2 x3 x4 x5 x6 x7 x8 x9 x10 x11 x12 x13 x14 x15 x16 x17 x18 s) k).val := by
    pointwise [val_main_call7_v4, val_main_call7_v3, val_main_call7_v2, val_main_call7_v1, val_main_call7_v0, val_main_call7_c, val_main_call7_c_0, val_main_v294]
    rw [chosen_reference]
    exact nonnegative _ (by omega) _
  have h11 : val_main_call7_v13 (F := Ideal) x0 x1 x2 x3 x4 x5 x6 x7 x8 x9 x10 x11 x12 x13 x14 x15 x16 x17 x18 (ix3 s k c) = 1#1 := by
    pointwise [val_main_call7_v13, val_main_call7_v11, val_main_call7_c_3, val_main_call7_v10, val_main_call7_v9, val_main_call7_v8, val_main_call7_v7, val_main_call7_c_1, val_main_call7_v6, val_main_call7_v5, val_main_call7_c_2]
    exact within _ 31 (by omega) (by omega) (fun x => val_main_call7_v4 (F := Ideal) x0 x1 x2 x3 x4 x5 x6 x7 x8 x9 x10 x11 x12 x13 x14 x15 x16 x17 x18 (ix3 s k x)) h4
  have h12 : val_main_call7_v12 (F := Ideal) x0 x1 x2 x3 x4 x5 x6 x7 x8 x9 x10 x11 x12 x13 x14 x15 x16 x17 x18 (ix3 s k c) = val_main_v258 (F := Ideal) x1 x2 x3 x4 x5 x6 x7 x8 x9 x10 x11 x12 x13 x14 x15 x16 x17 x18 (ix3 s (chosen (weightsOf x0 x1 x2 x3 x4 x5 x6 x7 x8 x9 x10 x11 x12 x13 x14 x15 x16 x17 x18 s) k) c) := by
    unfold val_main_call7_v12
    generalize val_main_v258 (F := Ideal) x1 x2 x3 x4 x5 x6 x7 x8 x9 x10 x11 x12 x13 x14 x15 x16 x17 x18 = L
    generalize val_main_call7_v4 (F := Ideal) x0 x1 x2 x3 x4 x5 x6 x7 x8 x9 x10 x11 x12 x13 x14 x15 x16 x17 x18 = I at h4
    exact RefGathers.row_gather L I s k c _ h4
  show Scalar.select (val_main_call7_v13 (F := Ideal) x0 x1 x2 x3 x4 x5 x6 x7 x8 x9 x10 x11 x12 x13 x14 x15 x16 x17 x18 (ix3 s k c)) (val_main_call7_v12 (F := Ideal) x0 x1 x2 x3 x4 x5 x6 x7 x8 x9 x10 x11 x12 x13 x14 x15 x16 x17 x18 (ix3 s k c)) _ = _
  rw [h11, h12]
  rfl

/-- The reference's rows, each divided by its length. -/
theorem result_reference (s : Fin 32) (k : Fin 16) (c : Fin 768) :
    val_main_v303 (F := Ideal) x0 x1 x2 x3 x4 x5 x6 x7 x8 x9 x10 x11 x12 x13 x14 x15 x16 x17 x18 (ix3 s k c)
      = unit (fun c => val_main_v258 (F := Ideal) x1 x2 x3 x4 x5 x6 x7 x8 x9 x10 x11 x12 x13 x14 x15 x16 x17 x18 (ix3 s (chosen (weightsOf x0 x1 x2 x3 x4 x5 x6 x7 x8 x9 x10 x11 x12 x13 x14 x15 x16 x17 x18 s) k) c)) c := by
  pointwise [val_main_v303, val_main_v302, val_main_v301, val_main_v300, val_main_v299, val_main_v298, val_main_v297, val_main_v296, val_main_cst_37, val_main_cst_38]
  simp only [rows_reference]
  rfl

end Cert.RefTail

end
-- ==== Proof.Results.lean ====
/-
  The two results, kernel against reference, as functions of the latent array's value and the arguments.
-/
module

public import proofs.«01_k».proof.Proof.KernelBlock
public import proofs.«01_k».proof.Proof.RefTail

@[expose] public section

set_option maxRecDepth 16384
set_option maxHeartbeats 2000000

noncomputable section

namespace Cert.Results
open Idealize.ShloMosaic Cert.ReferenceIdeal.Read Cert.Weights Cert.Choice Cert.Indicators
open Cert.ReferenceIdeal (S1024x768 S1x32x1024 S2x1024 S2x1024x1024 S2x1024x2048 S2x2048 S2x2048x1024 S32x256x1024 S32x768 S768)

variable (x0 : (⟨S32x768, .f32⟩ : BufTy).Contents (Elt Ideal)) (x1 : (⟨S32x256x1024, .f32⟩ : BufTy).Contents (Elt Ideal)) (x2 : (⟨S1x32x1024, .f32⟩ : BufTy).Contents (Elt Ideal)) (x3 : (⟨S2x1024x1024, .f32⟩ : BufTy).Contents (Elt Ideal)) (x4 : (⟨S2x1024, .f32⟩ : BufTy).Contents (Elt Ideal)) (x5 : (⟨S2x1024x2048, .f32⟩ : BufTy).Contents (Elt Ideal)) (x6 : (⟨S2x2048, .f32⟩ : BufTy).Contents (Elt Ideal)) (x7 : (⟨S2x1024x1024, .f32⟩ : BufTy).Contents (Elt Ideal)) (x8 x9 x10 x11 x12 : (⟨S2x1024, .f32⟩ : BufTy).Contents (Elt Ideal)) (x13 : (⟨S2x1024x2048, .f32⟩ : BufTy).Contents (Elt Ideal)) (x14 : (⟨S2x2048, .f32⟩ : BufTy).Contents (Elt Ideal)) (x15 : (⟨S2x2048x1024, .f32⟩ : BufTy).Contents (Elt Ideal)) (x16 : (⟨S2x1024, .f32⟩ : BufTy).Contents (Elt Ideal)) (x17 : (⟨S1024x768, .f32⟩ : BufTy).Contents (Elt Ideal)) (x18 : (⟨S768, .f32⟩ : BufTy).Contents (Elt Ideal))

/-- The first result: the chosen rows, each divided by its length. -/
theorem first_eq : KernelIdeal.Gen.out0_2 (F := Ideal) (val_main_v258 (F := Ideal) x1 x2 x3 x4 x5 x6 x7 x8 x9 x10 x11 x12 x13 x14 x15 x16 x17 x18) x0 = val_main_v303 (F := Ideal) x0 x1 x2 x3 x4 x5 x6 x7 x8 x9 x10 x11 x12 x13 x14 x15 x16 x17 x18 := by
  funext i
  obtain ⟨s, k, c, rfl⟩ : ∃ (s : Fin 32) (k : Fin 16) (c : Fin 768), i = ix3 s k c := ⟨i 0, i 1, i 2, by
    funext a
    match a with
    | ⟨0, _⟩ => rfl
    | ⟨1, _⟩ => rfl
    | ⟨2, _⟩ => rfl⟩
  exact (KernelBlock.rows _ _ s k c).trans (RefTail.result_reference x0 x1 x2 x3 x4 x5 x6 x7 x8 x9 x10 x11 x12 x13 x14 x15 x16 x17 x18 s k c).symm

/-- A small number as an integer. -/
theorem fptosi_natCast (n : Nat) (hn : n ≤ 16) : Ideal.fptosi 32 ((n : Nat) : EReal) = BitVec.ofNat 32 n := by
  have h : ((n : Nat) : EReal) = (((n : Nat) : ℝ) : EReal) := by norm_cast
  rw [h, Ideal.fptosi, Ideal.toIntClamped_coe, if_pos (by positivity), Int.floor_natCast, max_eq_right (by norm_num), min_eq_right (by norm_num; omega)]
  rfl

/-- The second result: how many places are kept. -/
theorem second_eq (hs : KernelIdeal.S32x128.Slices ![0, 0] KernelIdeal.S32x1) (hc : KernelIdeal.S32x1.ShapeCasts KernelIdeal.S32) :
    fptosi (F := Ideal) (φ := .f32) 32 (shapeCast KernelIdeal.S32 (extractStridedSlice KernelIdeal.S32x1 ![0, 0]
      (KernelIdeal.Gen.out0_3 (F := Ideal) (val_main_v258 (F := Ideal) x1 x2 x3 x4 x5 x6 x7 x8 x9 x10 x11 x12 x13 x14 x15 x16 x17 x18) x0) hs) hc)
      = val_main_v282 (F := Ideal) x0 x1 x2 x3 x4 x5 x6 x7 x8 x9 x10 x11 x12 x13 x14 x15 x16 x17 x18 := by
  funext i
  obtain ⟨s, rfl⟩ : ∃ s : Fin 32, i = ix1 s := ⟨i 0, by
    funext a
    match a with
    | ⟨0, _⟩ => rfl⟩
  rw [RefTail.kept_reference]
  have hk := KernelBlock.kept_out (val_main_v258 (F := Ideal) x1 x2 x3 x4 x5 x6 x7 x8 x9 x10 x11 x12 x13 x14 x15 x16 x17 x18) x0 s (0 : Fin 128)
  generalize KernelIdeal.Gen.out0_3 (F := Ideal) (val_main_v258 (F := Ideal) x1 x2 x3 x4 x5 x6 x7 x8 x9 x10 x11 x12 x13 x14 x15 x16 x17 x18) x0 = y at hk
  pointwise []
  rw [hk]
  exact fptosi_natCast _ (Nat.min_le_left _ _)

end Cert.Results

end
-- ==== Proof.lean ====
/-
  The claim: the kernel and its reference, assembled from the modules under Proof/.

  The frames are the launches' own. The two programs share their host operations up to the latent array, so both find the
  same array there (Proof/Prefix). From that array and the first argument the kernel computes both results in one region
  of one point, reading ranks off comparisons; the reference sorts. Proof/Choice says what either chooses,
  Proof/KernelBlock that the kernel chooses it, Proof/RefTail that the reference does.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Prefix
public import proofs.«01_k».proof.Proof.KernelRun
public import proofs.«01_k».proof.Proof.Results
public import Idealize.ShloMosaic.Adequacy
public import Idealize.ShloMosaic.Init
public import Idealize.ShloMosaic.Lib.Claim

@[expose] public section

set_option maxRecDepth 16384

noncomputable section

namespace Cert.Proof

open Idealize.ShloMosaic Idealize.SL.Sem Cert.Kernel

/-- The kernel as compiled terminates, leaving its arguments and the semaphores as they were. -/
theorem frame_compiled : quiescent_Kernel := fun m ρ _ => Cert.Kernel.Gen.frame m ρ

/-- So does the kernel over the extended reals. -/
theorem frame_ideal : quiescent_KernelIdeal := fun m ρ _ => Cert.KernelIdeal.Gen.frame m ρ

/-- So does the reference. -/
theorem frame_reference : quiescent_ReferenceIdeal := fun m ρ _ =>
  (θ_run Cert.ReferenceIdeal.defs _ _).mono
    (fun r h => ⟨fun c => (h c).2.2, Idealize.ShloMosaic.sem_eq_zero_of_no_sems (by decide) r.2⟩)
    (Cert.ReferenceIdeal.Value.run (F := Ideal) m ρ)

/-- The reference's first result over the contents `V'`. -/
abbrev first (V' : Valuation ReferenceIdeal.τ ReferenceIdeal.sig (Elt Ideal)) :=
  ReferenceIdeal.Read.val_main_v303 (F := Ideal) (V' (Proc.devRef .tc ReferenceIdeal.main_arg0)) (V' (Proc.devRef .tc ReferenceIdeal.main_arg1)) (V' (Proc.devRef .tc ReferenceIdeal.main_arg2)) (V' (Proc.devRef .tc ReferenceIdeal.main_arg3)) (V' (Proc.devRef .tc ReferenceIdeal.main_arg4)) (V' (Proc.devRef .tc ReferenceIdeal.main_arg5)) (V' (Proc.devRef .tc ReferenceIdeal.main_arg6)) (V' (Proc.devRef .tc ReferenceIdeal.main_arg7)) (V' (Proc.devRef .tc ReferenceIdeal.main_arg8)) (V' (Proc.devRef .tc ReferenceIdeal.main_arg9)) (V' (Proc.devRef .tc ReferenceIdeal.main_arg10)) (V' (Proc.devRef .tc ReferenceIdeal.main_arg11)) (V' (Proc.devRef .tc ReferenceIdeal.main_arg12)) (V' (Proc.devRef .tc ReferenceIdeal.main_arg13)) (V' (Proc.devRef .tc ReferenceIdeal.main_arg14)) (V' (Proc.devRef .tc ReferenceIdeal.main_arg15)) (V' (Proc.devRef .tc ReferenceIdeal.main_arg16)) (V' (Proc.devRef .tc ReferenceIdeal.main_arg17)) (V' (Proc.devRef .tc ReferenceIdeal.main_arg18))

/-- The reference's second result over the contents `V'`. -/
abbrev second (V' : Valuation ReferenceIdeal.τ ReferenceIdeal.sig (Elt Ideal)) :=
  ReferenceIdeal.Read.val_main_v282 (F := Ideal) (V' (Proc.devRef .tc ReferenceIdeal.main_arg0)) (V' (Proc.devRef .tc ReferenceIdeal.main_arg1)) (V' (Proc.devRef .tc ReferenceIdeal.main_arg2)) (V' (Proc.devRef .tc ReferenceIdeal.main_arg3)) (V' (Proc.devRef .tc ReferenceIdeal.main_arg4)) (V' (Proc.devRef .tc ReferenceIdeal.main_arg5)) (V' (Proc.devRef .tc ReferenceIdeal.main_arg6)) (V' (Proc.devRef .tc ReferenceIdeal.main_arg7)) (V' (Proc.devRef .tc ReferenceIdeal.main_arg8)) (V' (Proc.devRef .tc ReferenceIdeal.main_arg9)) (V' (Proc.devRef .tc ReferenceIdeal.main_arg10)) (V' (Proc.devRef .tc ReferenceIdeal.main_arg11)) (V' (Proc.devRef .tc ReferenceIdeal.main_arg12)) (V' (Proc.devRef .tc ReferenceIdeal.main_arg13)) (V' (Proc.devRef .tc ReferenceIdeal.main_arg14)) (V' (Proc.devRef .tc ReferenceIdeal.main_arg15)) (V' (Proc.devRef .tc ReferenceIdeal.main_arg16)) (V' (Proc.devRef .tc ReferenceIdeal.main_arg17)) (V' (Proc.devRef .tc ReferenceIdeal.main_arg18))

/-- The latent array the kernel's region finds is the reference's. -/
theorem latent (m : (ℓ : Loc KernelIdeal.nD KernelIdeal.τ KernelIdeal.sig) → Buf (Elt Ideal) ℓ)
    (c : Dev KernelIdeal.nD) (V' : Valuation ReferenceIdeal.τ ReferenceIdeal.sig (Elt Ideal))
    (h0 : V' (Proc.devRef .tc ReferenceIdeal.main_arg0) = m ((c.tc : Thread KernelIdeal.nD KernelIdeal.τ).loc KernelIdeal.main_arg0))
    (h1 : V' (Proc.devRef .tc ReferenceIdeal.main_arg1) = m ((c.tc : Thread KernelIdeal.nD KernelIdeal.τ).loc KernelIdeal.main_arg1))
    (h2 : V' (Proc.devRef .tc ReferenceIdeal.main_arg2) = m ((c.tc : Thread KernelIdeal.nD KernelIdeal.τ).loc KernelIdeal.main_arg2))
    (h3 : V' (Proc.devRef .tc ReferenceIdeal.main_arg3) = m ((c.tc : Thread KernelIdeal.nD KernelIdeal.τ).loc KernelIdeal.main_arg3))
    (h4 : V' (Proc.devRef .tc ReferenceIdeal.main_arg4) = m ((c.tc : Thread KernelIdeal.nD KernelIdeal.τ).loc KernelIdeal.main_arg4))
    (h5 : V' (Proc.devRef .tc ReferenceIdeal.main_arg5) = m ((c.tc : Thread KernelIdeal.nD KernelIdeal.τ).loc KernelIdeal.main_arg5))
    (h6 : V' (Proc.devRef .tc ReferenceIdeal.main_arg6) = m ((c.tc : Thread KernelIdeal.nD KernelIdeal.τ).loc KernelIdeal.main_arg6))
    (h7 : V' (Proc.devRef .tc ReferenceIdeal.main_arg7) = m ((c.tc : Thread KernelIdeal.nD KernelIdeal.τ).loc KernelIdeal.main_arg7))
    (h8 : V' (Proc.devRef .tc ReferenceIdeal.main_arg8) = m ((c.tc : Thread KernelIdeal.nD KernelIdeal.τ).loc KernelIdeal.main_arg8))
    (h9 : V' (Proc.devRef .tc ReferenceIdeal.main_arg9) = m ((c.tc : Thread KernelIdeal.nD KernelIdeal.τ).loc KernelIdeal.main_arg9))
    (h10 : V' (Proc.devRef .tc ReferenceIdeal.main_arg10) = m ((c.tc : Thread KernelIdeal.nD KernelIdeal.τ).loc KernelIdeal.main_arg10))
    (h11 : V' (Proc.devRef .tc ReferenceIdeal.main_arg11) = m ((c.tc : Thread KernelIdeal.nD KernelIdeal.τ).loc KernelIdeal.main_arg11))
    (h12 : V' (Proc.devRef .tc ReferenceIdeal.main_arg12) = m ((c.tc : Thread KernelIdeal.nD KernelIdeal.τ).loc KernelIdeal.main_arg12))
    (h13 : V' (Proc.devRef .tc ReferenceIdeal.main_arg13) = m ((c.tc : Thread KernelIdeal.nD KernelIdeal.τ).loc KernelIdeal.main_arg13))
    (h14 : V' (Proc.devRef .tc ReferenceIdeal.main_arg14) = m ((c.tc : Thread KernelIdeal.nD KernelIdeal.τ).loc KernelIdeal.main_arg14))
    (h15 : V' (Proc.devRef .tc ReferenceIdeal.main_arg15) = m ((c.tc : Thread KernelIdeal.nD KernelIdeal.τ).loc KernelIdeal.main_arg15))
    (h16 : V' (Proc.devRef .tc ReferenceIdeal.main_arg16) = m ((c.tc : Thread KernelIdeal.nD KernelIdeal.τ).loc KernelIdeal.main_arg16))
    (h17 : V' (Proc.devRef .tc ReferenceIdeal.main_arg17) = m ((c.tc : Thread KernelIdeal.nD KernelIdeal.τ).loc KernelIdeal.main_arg17))
    (h18 : V' (Proc.devRef .tc ReferenceIdeal.main_arg18) = m ((c.tc : Thread KernelIdeal.nD KernelIdeal.τ).loc KernelIdeal.main_arg18))
    :
    KernelIdeal.Gen.V m c KernelIdeal.main_v258 = ReferenceIdeal.Read.val_main_v258 (F := Ideal) (V' (Proc.devRef .tc ReferenceIdeal.main_arg1)) (V' (Proc.devRef .tc ReferenceIdeal.main_arg2)) (V' (Proc.devRef .tc ReferenceIdeal.main_arg3)) (V' (Proc.devRef .tc ReferenceIdeal.main_arg4)) (V' (Proc.devRef .tc ReferenceIdeal.main_arg5)) (V' (Proc.devRef .tc ReferenceIdeal.main_arg6)) (V' (Proc.devRef .tc ReferenceIdeal.main_arg7)) (V' (Proc.devRef .tc ReferenceIdeal.main_arg8)) (V' (Proc.devRef .tc ReferenceIdeal.main_arg9)) (V' (Proc.devRef .tc ReferenceIdeal.main_arg10)) (V' (Proc.devRef .tc ReferenceIdeal.main_arg11)) (V' (Proc.devRef .tc ReferenceIdeal.main_arg12)) (V' (Proc.devRef .tc ReferenceIdeal.main_arg13)) (V' (Proc.devRef .tc ReferenceIdeal.main_arg14)) (V' (Proc.devRef .tc ReferenceIdeal.main_arg15)) (V' (Proc.devRef .tc ReferenceIdeal.main_arg16)) (V' (Proc.devRef .tc ReferenceIdeal.main_arg17)) (V' (Proc.devRef .tc ReferenceIdeal.main_arg18)) :=
  Prefix.latent_eq (fun b => m (c, b)) V' h0 h1 h2 h3 h4 h5 h6 h7 h8 h9 h10 h11 h12 h13 h14 h15 h16 h17 h18

/-- From agreeing arguments the kernel and the reference end with the same two results. -/
theorem agree : algebraic_KernelIdeal_ReferenceIdeal := by
  intro m g m' g' _ q
  have hl := fun c => latent m c (StableHlo.launchContents m' c) (q c).1 (q c).2.1 (q c).2.2.1 (q c).2.2.2.1 (q c).2.2.2.2.1 (q c).2.2.2.2.2.1 (q c).2.2.2.2.2.2.1 (q c).2.2.2.2.2.2.2.1 (q c).2.2.2.2.2.2.2.2.1 (q c).2.2.2.2.2.2.2.2.2.1 (q c).2.2.2.2.2.2.2.2.2.2.1 (q c).2.2.2.2.2.2.2.2.2.2.2.1 (q c).2.2.2.2.2.2.2.2.2.2.2.2.1 (q c).2.2.2.2.2.2.2.2.2.2.2.2.2.1 (q c).2.2.2.2.2.2.2.2.2.2.2.2.2.2.1 (q c).2.2.2.2.2.2.2.2.2.2.2.2.2.2.2.1 (q c).2.2.2.2.2.2.2.2.2.2.2.2.2.2.2.2.1 (q c).2.2.2.2.2.2.2.2.2.2.2.2.2.2.2.2.2.1 (q c).2.2.2.2.2.2.2.2.2.2.2.2.2.2.2.2.2.2
  have h0 : ∀ c, KernelIdeal.Gen.V m c KernelIdeal.main_arg0 = StableHlo.launchContents m' c (Proc.devRef .tc ReferenceIdeal.main_arg0) :=
    fun c => (KernelIdeal.Gen.V_main_arg0 m c).trans (q c).1.symm
  refine ⟨fun c => first (StableHlo.launchContents m' c), fun c => second (StableHlo.launchContents m' c), ?_, ?_⟩
  · refine (θ_run KernelIdeal.defs _ _).mono (fun r h c => ⟨(h.1 c).1.trans ?_, (h.1 c).2.trans ?_, h.2 c⟩)
      (θ_run_and (KernelRun.results (F := Ideal) m g) (KernelIdeal.Gen.unchanged m g))
    · rw [hl c, h0 c]
      exact Results.first_eq ..
    · rw [hl c, h0 c]
      exact Results.second_eq ..
  · exact (θ_run ReferenceIdeal.defs _ _).mono
      (fun r h c => ⟨(h c).1.trans (ReferenceIdeal.Read.val_main_v303_eq _), (h c).2.1.trans (ReferenceIdeal.Read.val_main_v282_eq _), (h c).2.2⟩)
      (ReferenceIdeal.Value.run (F := Ideal) m' g')

theorem claim : Cert.Claim :=
  ⟨Cert.Kernel.Gen.facts, Cert.KernelIdeal.Gen.facts, Cert.ReferenceIdeal.Gen.facts,
    frame_compiled, frame_ideal, frame_reference, trivial, agree⟩

end Cert.Proof

end
